-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_SiluIdeal (m : (ℓ : Loc Cert.SiluIdeal.nD Cert.SiluIdeal.τ Cert.SiluIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_SiluIdeal [hSiluIdeal : Cert.SiluIdeal.Facts] : Prop :=
  ∀ (m : (ℓ : Loc Cert.SiluIdeal.nD Cert.SiluIdeal.τ Cert.SiluIdeal.sig) → Buf (Elt Ideal) ℓ) (g : Dev Cert.SiluIdeal.nD → PrngReg), Pre_SiluIdeal m →
    θ_run (Cert.SiluIdeal.defs (F := Ideal)) (onTc (τ := Cert.SiluIdeal.τ) (Cert.SiluIdeal.main (F := Ideal))) ⟨m, fun _ => 0, g⟩ (fun r => (∀ c : Dev Cert.SiluIdeal.nD,
      r.2.mem ((c.tc : Thread Cert.SiluIdeal.nD Cert.SiluIdeal.τ).loc Cert.SiluIdeal.main_arg0) = m ((c.tc : Thread Cert.SiluIdeal.nD Cert.SiluIdeal.τ).loc Cert.SiluIdeal.main_arg0)
      ∧ r.2.mem ((c.tc : Thread Cert.SiluIdeal.nD Cert.SiluIdeal.τ).loc Cert.SiluIdeal.main_arg1) = m ((c.tc : Thread Cert.SiluIdeal.nD Cert.SiluIdeal.τ).loc Cert.SiluIdeal.main_arg1))
      ∧ r.2.sem = fun _ => 0)

def preserves_Kernel_KernelIdeal : Prop :=
  True

def algebraic_KernelIdeal_ReferenceIdeal_on_within_clip [hKernelIdeal : Cert.KernelIdeal.Facts] [hReferenceIdeal : Cert.ReferenceIdeal.Facts] [hOn_within_clip : Cert.On_within_clip.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)) →
    ∃ (v0 : Buf (Elt Ideal) (((0 : Dev Cert.ReferenceIdeal.nD).tc : Thread Cert.ReferenceIdeal.nD Cert.ReferenceIdeal.τ).loc Cert.ReferenceIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![1024, 2048]⟩ : Shape).Idx, (Layout.block ⟨2, ![1024, 2048]⟩ ⟨2, ![4096, 2048]⟩ 0 4 c ((Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1)))) : (⟨2, ![1024, 2048]⟩ : Shape).Idx → _) i = 1#1 → r.2.mem ((c.tc : Thread Cert.KernelIdeal.nD Cert.KernelIdeal.τ).loc Cert.KernelIdeal.main_v1) i = (Layout.block ⟨2, ![1024, 2048]⟩ ⟨2, ![4096, 2048]⟩ 0 4 c v0 : (⟨2, ![1024, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![4096, 2048]⟩ : Shape).Idx, (Cert.On_within_clip.fn (F := Ideal) (m' (((0 : Dev Cert.ReferenceIdeal.nD).tc : Thread Cert.ReferenceIdeal.nD Cert.ReferenceIdeal.τ).loc Cert.ReferenceIdeal.main_arg0)) (m' (((0 : Dev Cert.ReferenceIdeal.nD).tc : Thread Cert.ReferenceIdeal.nD Cert.ReferenceIdeal.τ).loc Cert.ReferenceIdeal.main_arg1))) i = 1#1 → r.2.mem (((0 : Dev Cert.ReferenceIdeal.nD).tc : Thread Cert.ReferenceIdeal.nD Cert.ReferenceIdeal.τ).loc Cert.ReferenceIdeal.main_v6) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_SiluIdeal [hKernelIdeal : Cert.KernelIdeal.Facts] [hSiluIdeal : Cert.SiluIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.SiluIdeal.nD Cert.SiluIdeal.τ Cert.SiluIdeal.sig) → Buf (Elt Ideal) ℓ) (g' : Dev Cert.SiluIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 1024]⟩ ⟨2, ![4096, 4096]⟩ 1 4 c (m' (((0 : Dev Cert.SiluIdeal.nD).tc : Thread Cert.SiluIdeal.nD Cert.SiluIdeal.τ).loc Cert.SiluIdeal.main_arg0))
      ∧ m ((c.tc : Thread Cert.KernelIdeal.nD Cert.KernelIdeal.τ).loc Cert.KernelIdeal.main_arg1) = m' (((0 : Dev Cert.SiluIdeal.nD).tc : Thread Cert.SiluIdeal.nD Cert.SiluIdeal.τ).loc Cert.SiluIdeal.main_arg1)) →
    ∃ (v0 : Buf (Elt Ideal) (((0 : Dev Cert.SiluIdeal.nD).tc : Thread Cert.SiluIdeal.nD Cert.SiluIdeal.τ).loc Cert.SiluIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![1024, 2048]⟩ ⟨2, ![4096, 2048]⟩ 0 4 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.SiluIdeal.defs (F := Ideal)) (onTc (τ := Cert.SiluIdeal.τ) (Cert.SiluIdeal.main (F := Ideal))) ⟨m', fun _ => 0, g'⟩ (fun r =>
          r.2.mem (((0 : Dev Cert.SiluIdeal.nD).tc : Thread Cert.SiluIdeal.nD Cert.SiluIdeal.τ).loc Cert.SiluIdeal.main_v5) = v0
          ∧ r.2.mem (((0 : Dev Cert.SiluIdeal.nD).tc : Thread Cert.SiluIdeal.nD Cert.SiluIdeal.τ).loc Cert.SiluIdeal.main_arg0) = m' (((0 : Dev Cert.SiluIdeal.nD).tc : Thread Cert.SiluIdeal.nD Cert.SiluIdeal.τ).loc Cert.SiluIdeal.main_arg0)
          ∧ r.2.mem (((0 : Dev Cert.SiluIdeal.nD).tc : Thread Cert.SiluIdeal.nD Cert.SiluIdeal.τ).loc Cert.SiluIdeal.main_arg1) = m' (((0 : Dev Cert.SiluIdeal.nD).tc : Thread Cert.SiluIdeal.nD Cert.SiluIdeal.τ).loc Cert.SiluIdeal.main_arg1))

def Claim : Prop :=
  ∃ (hKernel : Cert.Kernel.Facts) (hKernelIdeal : Cert.KernelIdeal.Facts) (hReferenceIdeal : Cert.ReferenceIdeal.Facts) (hSiluIdeal : Cert.SiluIdeal.Facts) (hOn_within_clip : Cert.On_within_clip.Facts),
    quiescent_Kernel (hKernel := hKernel)
    ∧ quiescent_KernelIdeal (hKernelIdeal := hKernelIdeal)
    ∧ quiescent_ReferenceIdeal (hReferenceIdeal := hReferenceIdeal)
    ∧ quiescent_SiluIdeal (hSiluIdeal := hSiluIdeal)
    ∧ preserves_Kernel_KernelIdeal
    ∧ algebraic_KernelIdeal_ReferenceIdeal_on_within_clip (hKernelIdeal := hKernelIdeal) (hReferenceIdeal := hReferenceIdeal) (hOn_within_clip := hOn_within_clip)
    ∧ algebraic_KernelIdeal_SiluIdeal (hKernelIdeal := hKernelIdeal) (hSiluIdeal := hSiluIdeal)
-- ==== On_within_clip.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_v1 : FVec F S4096x2048 .f32 := Host.absf main_v0
  let main_cst : FVec F S_ .f32 := constant S_ .f32 0x42700000#32
  let main_v2 : FVec F S4096x2048 .f32 := broadcastInDim S4096x2048 ![] bcast_S_S4096x2048 main_cst
  let main_v3 : IVec S4096x2048 1 := cmpf .ole main_v1 main_v2
  main_v3
-- ==== Kernel.lean ====
abbrev S4096x1024 : Shape := ⟨2, ![4096, 1024]⟩
abbrev S4096x2048 : Shape := ⟨2, ![4096, 2048]⟩
abbrev S1024x2048 : Shape := ⟨2, ![1024, 2048]⟩
abbrev S4x1024x1024 : Shape := ⟨3, ![4, 1024, 1024]⟩
abbrev S2x1024x2048 : Shape := ⟨3, ![2, 1024, 2048]⟩
abbrev S10 : Shape := ⟨1, ![10]⟩
abbrev S4 : Shape := ⟨1, ![4]⟩
abbrev S8 : Shape := ⟨1, ![8]⟩
abbrev S1 : Shape := ⟨1, ![1]⟩
abbrev S2 : Shape := ⟨1, ![2]⟩
abbrev S_ : Shape := ⟨0, ![]⟩
abbrev S1x1024x2048 : Shape := ⟨3, ![1, 1024, 2048]⟩
abbrev S1024x1024 : Shape := ⟨2, ![1024, 1024]⟩
abbrev S1x1024x1024 : Shape := ⟨3, ![1, 1024, 1024]⟩
abbrev S1x128x1024 : Shape := ⟨3, ![1, 128, 1024]⟩
abbrev S128x1024 : Shape := ⟨2, ![128, 1024]⟩
abbrev S128x2048 : Shape := ⟨2, ![128, 2048]⟩

abbrev nBuf : Space → Nat
  | .hbm => 3
  | .vmem => 5
  | .smem => 0
  | _ => 0

abbrev bufTy : (tb : Table) → Fin (tcTables nBuf tb) → BufTy
  | .hbm, ⟨0, _⟩ => ⟨S4096x1024, .f32⟩
  | .hbm, ⟨1, _⟩ => ⟨S4096x2048, .f32⟩
  | .hbm, ⟨2, _⟩ => ⟨S1024x2048, .f32⟩
  | .local _ .vmem, ⟨0, _⟩ => ⟨S4096x1024, .f32⟩
  | .local _ .vmem, ⟨1, _⟩ => ⟨S1024x2048, .f32⟩
  | .local _ .vmem, ⟨2, _⟩ => ⟨S4096x1024, .bf16⟩
  | .local _ .vmem, ⟨3, _⟩ => ⟨S4x1024x1024, .bf16⟩
  | .local _ .vmem, ⟨4, _⟩ => ⟨S2x1024x2048, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 27 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | _ => false

abbrev sig : RefSig :=
  (ofTc nBuf bufTy 1 27 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_scratch2 : Ref sig .tc := ⟨.vmem, 4, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_27 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_18 : BitVec 32 := 1#32
  let v37 : BitVec 32 := Scalar.addi v2 c1_i32_18
  let c4_i32_19 : BitVec 32 := 4#32
  let c0_i32_20 : BitVec 32 := 0#32
  let v38 : BitVec 1 := Scalar.cmpi .eq c4_i32_19 c0_i32_20
  let c1_i32_21 : BitVec 32 := 1#32
  let v39 : BitVec 32 := Scalar.select v38 c1_i32_21 c4_i32_19
  let v40 : BitVec 32 := Scalar.remsi v37 v39
  let c0_i32_23 : BitVec 32 := 0#32
  let v42 : BitVec 1 := Scalar.cmpi .slt v40 c0_i32_23
  let c0_i32_24 : BitVec 32 := 0#32
  let v43 : BitVec 1 := Scalar.cmpi .slt v39 c0_i32_24
  let v44 : BitVec 1 := Scalar.xori v42 v43
  let c0_i32_22 : BitVec 32 := 0#32
  let v41 : BitVec 1 := Scalar.cmpi .ne v40 c0_i32_22
  let v45 : BitVec 1 := Scalar.andi v44 v41
  let v46 : BitVec 32 := Scalar.addi v40 v39
  let v47 : BitVec 32 := Scalar.select v45 v46 v40
  let c1_i32_26 : BitVec 32 := 1#32
  let v48 : BitVec 32 := Scalar.muli v47 c1_i32_26
  let v49 : BitVec 32 := Scalar.addi c0_i32_27 v48
  v49.toNat
def k0_dev2 (d0 : Dev nD) : Nat :=
  let c0_i32_37 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_28 : BitVec 32 := 2#32
  let v50 : BitVec 32 := Scalar.addi v2 c2_i32_28
  let c4_i32_29 : BitVec 32 := 4#32
  let c0_i32_30 : BitVec 32 := 0#32
  let v51 : BitVec 1 := Scalar.cmpi .eq c4_i32_29 c0_i32_30
  let c1_i32_31 : BitVec 32 := 1#32
  let v52 : BitVec 32 := Scalar.select v51 c1_i32_31 c4_i32_29
  let v53 : BitVec 32 := Scalar.remsi v50 v52
  let c0_i32_33 : BitVec 32 := 0#32
  let v55 : BitVec 1 := Scalar.cmpi .slt v53 c0_i32_33
  let c0_i32_34 : BitVec 32 := 0#32
  let v56 : BitVec 1 := Scalar.cmpi .slt v52 c0_i32_34
  let v57 : BitVec 1 := Scalar.xori v55 v56
  let c0_i32_32 : BitVec 32 := 0#32
  let v54 : BitVec 1 := Scalar.cmpi .ne v53 c0_i32_32
  let v58 : BitVec 1 := Scalar.andi v57 v54
  let v59 : BitVec 32 := Scalar.addi v53 v52
  let v60 : BitVec 32 := Scalar.select v58 v59 v53
  let c1_i32_36 : BitVec 32 := 1#32
  let v61 : BitVec 32 := Scalar.muli v60 c1_i32_36
  let v62 : BitVec 32 := Scalar.addi c0_i32_37 v61
  v62.toNat
def k0_dev3 (d0 : Dev nD) : Nat :=
  let c0_i32_47 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_38 : BitVec 32 := 3#32
  let v63 : BitVec 32 := Scalar.addi v2 c3_i32_38
  let c4_i32_39 : BitVec 32 := 4#32
  let c0_i32_40 : BitVec 32 := 0#32
  let v64 : BitVec 1 := Scalar.cmpi .eq c4_i32_39 c0_i32_40
  let c1_i32_41 : BitVec 32 := 1#32
  let v65 : BitVec 32 := Scalar.select v64 c1_i32_41 c4_i32_39
  let v66 : BitVec 32 := Scalar.remsi v63 v65
  let c0_i32_43 : BitVec 32 := 0#32
  let v68 : BitVec 1 := Scalar.cmpi .slt v66 c0_i32_43
  let c0_i32_44 : BitVec 32 := 0#32
  let v69 : BitVec 1 := Scalar.cmpi .slt v65 c0_i32_44
  let v70 : BitVec 1 := Scalar.xori v68 v69
  let c0_i32_42 : BitVec 32 := 0#32
  let v67 : BitVec 1 := Scalar.cmpi .ne v66 c0_i32_42
  let v71 : BitVec 1 := Scalar.andi v70 v67
  let v72 : BitVec 32 := Scalar.addi v66 v65
  let v73 : BitVec 32 := Scalar.select v71 v72 v66
  let c1_i32_46 : BitVec 32 := 1#32
  let v74 : BitVec 32 := Scalar.muli v73 c1_i32_46
  let v75 : BitVec 32 := Scalar.addi c0_i32_47 v74
  v75.toNat
def k0_off1 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32 : BitVec 32 := 1024#32
  let v76 : BitVec 32 := Scalar.muli v2 c1024_i32
  let c0_i32_53 : BitVec 32 := 0#32
  ![v76.toNat, 0]
def k0_off2 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_54 : BitVec 32 := 1024#32
  let v82 : BitVec 32 := Scalar.muli v13 c1024_i32_54
  let c0_i32_59 : BitVec 32 := 0#32
  ![v82.toNat, 0]
def k0_off3 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_60 : BitVec 32 := 1024#32
  let v88 : BitVec 32 := Scalar.muli v13 c1024_i32_60
  let v89 : Index := Scalar.indexCast v88
  let c0 : Index := 0#32
  ![v89.toNat, 0]
def k0_off4 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_67 : BitVec 32 := 0#32
  let c0_i32_68 : BitVec 32 := 0#32
  ![v2.toNat, 0, 0]
def k0_off6 (d0 : Dev nD) (c1_i32_0 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1024_i32_63 : BitVec 32 := 1024#32
  let v98 : BitVec 32 := Scalar.muli v13 c1024_i32_63
  let c0_i32_69 : BitVec 32 := 0#32
  ![v98.toNat, 0]
def k0_dev4 (d0 : Dev nD) : Nat :=
  let c0_i32_66 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c1_i32_65 : BitVec 32 := 1#32
  let v99 : BitVec 32 := Scalar.muli v13 c1_i32_65
  let v100 : BitVec 32 := Scalar.addi c0_i32_66 v99
  v100.toNat
def k0_dev5 (d0 : Dev nD) : Nat :=
  let c0_i32_77 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v14 : BitVec 32 := Scalar.addi v2 c3_i32
  let c4_i32_6 : BitVec 32 := 4#32
  let c0_i32_7 : BitVec 32 := 0#32
  let v15 : BitVec 1 := Scalar.cmpi .eq c4_i32_6 c0_i32_7
  let c1_i32_8 : BitVec 32 := 1#32
  let v16 : BitVec 32 := Scalar.select v15 c1_i32_8 c4_i32_6
  let v17 : BitVec 32 := Scalar.remsi v14 v16
  let c0_i32_10 : BitVec 32 := 0#32
  let v19 : BitVec 1 := Scalar.cmpi .slt v17 c0_i32_10
  let c0_i32_11 : BitVec 32 := 0#32
  let v20 : BitVec 1 := Scalar.cmpi .slt v16 c0_i32_11
  let v21 : BitVec 1 := Scalar.xori v19 v20
  let c0_i32_9 : BitVec 32 := 0#32
  let v18 : BitVec 1 := Scalar.cmpi .ne v17 c0_i32_9
  let v22 : BitVec 1 := Scalar.andi v21 v18
  let v23 : BitVec 32 := Scalar.addi v17 v16
  let v24 : BitVec 32 := Scalar.select v22 v23 v17
  let c1_i32_76 : BitVec 32 := 1#32
  let v119 : BitVec 32 := Scalar.muli v24 c1_i32_76
  let v120 : BitVec 32 := Scalar.addi c0_i32_77 v119
  v120.toNat
def k0_off7 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_91 : BitVec 32 := 0#32
  let c0_i32_92 : BitVec 32 := 0#32
  ![v2.toNat, 0, 0]
def k0_off8 (d0 : Dev nD) (c0_i32_86 : BitVec 32) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1024_i32_85 : BitVec 32 := 1024#32
  let v138 : BitVec 32 := Scalar.muli v35 c1024_i32_85
  let v139 : BitVec 32 := Scalar.addi v138 c0_i32_86
  let c0_i32_93 : BitVec 32 := 0#32
  ![v139.toNat, 0]
def k0_dev6 (d0 : Dev nD) : Nat :=
  let c0_i32_90 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_89 : BitVec 32 := 1#32
  let v140 : BitVec 32 := Scalar.muli v35 c1_i32_89
  let v141 : BitVec 32 := Scalar.addi c0_i32_90 v140
  v141.toNat
def k0_off9 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c128_i32_99 : BitVec 32 := 128#32
  let c0_i32_100 : BitVec 32 := 0#32
  ![v2.toNat, 128, 0]
def k0_dev7 (d0 : Dev nD) : Nat :=
  let c0_i32_98 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_97 : BitVec 32 := 1#32
  let v151 : BitVec 32 := Scalar.muli v35 c1_i32_97
  let v152 : BitVec 32 := Scalar.addi c0_i32_98 v151
  v152.toNat
def k0_off10 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c256_i32_107 : BitVec 32 := 256#32
  let c0_i32_108 : BitVec 32 := 0#32
  ![v2.toNat, 256, 0]
def k0_dev8 (d0 : Dev nD) : Nat :=
  let c0_i32_106 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_105 : BitVec 32 := 1#32
  let v162 : BitVec 32 := Scalar.muli v35 c1_i32_105
  let v163 : BitVec 32 := Scalar.addi c0_i32_106 v162
  v163.toNat
def k0_off11 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c384_i32_114 : BitVec 32 := 384#32
  let c0_i32_115 : BitVec 32 := 0#32
  ![v2.toNat, 384, 0]
def k0_dev9 (d0 : Dev nD) : Nat :=
  let c0_i32_113 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_112 : BitVec 32 := 1#32
  let v173 : BitVec 32 := Scalar.muli v35 c1_i32_112
  let v174 : BitVec 32 := Scalar.addi c0_i32_113 v173
  v174.toNat
def k0_off12 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c512_i32_121 : BitVec 32 := 512#32
  let c0_i32_122 : BitVec 32 := 0#32
  ![v2.toNat, 512, 0]
def k0_dev10 (d0 : Dev nD) : Nat :=
  let c0_i32_120 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_119 : BitVec 32 := 1#32
  let v184 : BitVec 32 := Scalar.muli v35 c1_i32_119
  let v185 : BitVec 32 := Scalar.addi c0_i32_120 v184
  v185.toNat
def k0_off13 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c640_i32_128 : BitVec 32 := 640#32
  let c0_i32_129 : BitVec 32 := 0#32
  ![v2.toNat, 640, 0]
def k0_dev11 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_126 : BitVec 32 := 1#32
  let v195 : BitVec 32 := Scalar.muli v35 c1_i32_126
  let v196 : BitVec 32 := Scalar.addi c0_i32_127 v195
  v196.toNat
def k0_off14 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c768_i32_135 : BitVec 32 := 768#32
  let c0_i32_136 : BitVec 32 := 0#32
  ![v2.toNat, 768, 0]
def k0_dev12 (d0 : Dev nD) : Nat :=
  let c0_i32_134 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_133 : BitVec 32 := 1#32
  let v206 : BitVec 32 := Scalar.muli v35 c1_i32_133
  let v207 : BitVec 32 := Scalar.addi c0_i32_134 v206
  v207.toNat
def k0_off15 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c896_i32_142 : BitVec 32 := 896#32
  let c0_i32_143 : BitVec 32 := 0#32
  ![v2.toNat, 896, 0]
def k0_dev13 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c1_i32_140 : BitVec 32 := 1#32
  let v217 : BitVec 32 := Scalar.muli v35 c1_i32_140
  let v218 : BitVec 32 := Scalar.addi c0_i32_141 v217
  v218.toNat
def k0_off16 (d0 : Dev nD) : Fin 2 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1024_i32_151 : BitVec 32 := 1024#32
  let v232 : BitVec 32 := Scalar.muli v2 c1024_i32_151
  let v233 : Index := Scalar.indexCast v232
  let c0_152 : Index := 0#32
  ![v233.toNat, 0]
def k0_off17 (d0 : Dev nD) (c1_i32_0 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  ![v13.toNat]
def k0_off18 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let c0_i32_161 : BitVec 32 := 0#32
  let c0_i32_162 : BitVec 32 := 0#32
  ![v13.toNat, 0, 0]
def k0_off19 (d0 : Dev nD) (c1_i32_0 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v3 : BitVec 32 := Scalar.addi v2 c1_i32_0
  let c4_i32_1 : BitVec 32 := 4#32
  let c0_i32 : BitVec 32 := 0#32
  let v4 : BitVec 1 := Scalar.cmpi .eq c4_i32_1 c0_i32
  let c1_i32_2 : BitVec 32 := 1#32
  let v5 : BitVec 32 := Scalar.select v4 c1_i32_2 c4_i32_1
  let v6 : BitVec 32 := Scalar.remsi v3 v5
  let c0_i32_4 : BitVec 32 := 0#32
  let v8 : BitVec 1 := Scalar.cmpi .slt v6 c0_i32_4
  let c0_i32_5 : BitVec 32 := 0#32
  let v9 : BitVec 1 := Scalar.cmpi .slt v5 c0_i32_5
  let v10 : BitVec 1 := Scalar.xori v8 v9
  let c0_i32_3 : BitVec 32 := 0#32
  let v7 : BitVec 1 := Scalar.cmpi .ne v6 c0_i32_3
  let v11 : BitVec 1 := Scalar.andi v10 v7
  let v12 : BitVec 32 := Scalar.addi v6 v5
  let v13 : BitVec 32 := Scalar.select v11 v12 v6
  let v264 : Index := Scalar.indexCast v13
  let c0_179 : Index := 0#32
  let c0_180 : Index := 0#32
  ![v264.toNat, 0, 0]
def k0_off20 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c0_i32_225 : BitVec 32 := 0#32
  let c0_i32_226 : BitVec 32 := 0#32
  ![v35.toNat, 0, 0]
def k0_off21 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v320 : Index := Scalar.indexCast v35
  let c0_231 : Index := 0#32
  let c0_232 : Index := 0#32
  ![v320.toNat, 0, 0]
def k0_off22 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c128_i32_246 : BitVec 32 := 128#32
  let c0_i32_247 : BitVec 32 := 0#32
  ![v35.toNat, 128, 0]
def k0_off23 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v347 : Index := Scalar.indexCast v35
  let c128_251 : Index := 128#32
  let c0_252 : Index := 0#32
  ![v347.toNat, 128, 0]
def k0_off24 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c256_i32_266 : BitVec 32 := 256#32
  let c0_i32_267 : BitVec 32 := 0#32
  ![v35.toNat, 256, 0]
def k0_off25 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v374 : Index := Scalar.indexCast v35
  let c256_271 : Index := 256#32
  let c0_272 : Index := 0#32
  ![v374.toNat, 256, 0]
def k0_off26 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c384_i32_286 : BitVec 32 := 384#32
  let c0_i32_287 : BitVec 32 := 0#32
  ![v35.toNat, 384, 0]
def k0_off27 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v401 : Index := Scalar.indexCast v35
  let c384_291 : Index := 384#32
  let c0_292 : Index := 0#32
  ![v401.toNat, 384, 0]
def k0_off28 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c512_i32_306 : BitVec 32 := 512#32
  let c0_i32_307 : BitVec 32 := 0#32
  ![v35.toNat, 512, 0]
def k0_off29 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v428 : Index := Scalar.indexCast v35
  let c512_311 : Index := 512#32
  let c0_312 : Index := 0#32
  ![v428.toNat, 512, 0]
def k0_off30 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c640_i32_326 : BitVec 32 := 640#32
  let c0_i32_327 : BitVec 32 := 0#32
  ![v35.toNat, 640, 0]
def k0_off31 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v455 : Index := Scalar.indexCast v35
  let c640_331 : Index := 640#32
  let c0_332 : Index := 0#32
  ![v455.toNat, 640, 0]
def k0_off32 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c768_i32_346 : BitVec 32 := 768#32
  let c0_i32_347 : BitVec 32 := 0#32
  ![v35.toNat, 768, 0]
def k0_off33 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v482 : Index := Scalar.indexCast v35
  let c768_351 : Index := 768#32
  let c0_352 : Index := 0#32
  ![v482.toNat, 768, 0]
def k0_off34 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let c896_i32_366 : BitVec 32 := 896#32
  let c0_i32_367 : BitVec 32 := 0#32
  ![v35.toNat, 896, 0]
def k0_off35 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v25 : BitVec 32 := Scalar.addi v2 c2_i32
  let c4_i32_12 : BitVec 32 := 4#32
  let c0_i32_13 : BitVec 32 := 0#32
  let v26 : BitVec 1 := Scalar.cmpi .eq c4_i32_12 c0_i32_13
  let c1_i32_14 : BitVec 32 := 1#32
  let v27 : BitVec 32 := Scalar.select v26 c1_i32_14 c4_i32_12
  let v28 : BitVec 32 := Scalar.remsi v25 v27
  let c0_i32_16 : BitVec 32 := 0#32
  let v30 : BitVec 1 := Scalar.cmpi .slt v28 c0_i32_16
  let c0_i32_17 : BitVec 32 := 0#32
  let v31 : BitVec 1 := Scalar.cmpi .slt v27 c0_i32_17
  let v32 : BitVec 1 := Scalar.xori v30 v31
  let c0_i32_15 : BitVec 32 := 0#32
  let v29 : BitVec 1 := Scalar.cmpi .ne v28 c0_i32_15
  let v33 : BitVec 1 := Scalar.andi v32 v29
  let v34 : BitVec 32 := Scalar.addi v28 v27
  let v35 : BitVec 32 := Scalar.select v33 v34 v28
  let v509 : Index := Scalar.indexCast v35
  let c896_371 : Index := 896#32
  let c0_372 : Index := 0#32
  ![v509.toNat, 896, 0]
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== SiluIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.Blocks.lean ====
/-
# Blocks of consecutive rows

The kernel addresses its buffers by blocks of consecutive rows: `n` whole rows of a matrix from row `lo` on, and the
same of one layer of a stack of matrices. Here are the rectangles, which indices lie in them, where their own
indices are placed, and how a whole buffer or a block is cut into smaller ones.
-/
module

public import Idealize.ShloMosaic.Lib.Pipeline.Launch
public import Idealize.ShloMosaic.Lib.Pipeline.Kit

@[expose] public section

noncomputable section

namespace Cert.Blocks

open Idealize.ShloMosaic
open Idealize.SL Idealize.SL.RA Idealize.SL.BI
open scoped Idealize.SL.BI
open Idealize.SL.BI.BIBase

/-- The index of a matrix at row `a` and column `b`. -/
def at2 {A B : ℕ} (a b : ℕ) (ha : a < A) (hb : b < B) : (⟨2, ![A, B]⟩ : Shape).Idx
  | 0 => ⟨a, ha⟩
  | 1 => ⟨b, hb⟩

/-- The index of a stack at layer `s`, row `a` and column `b`. -/
def at3 {S A B : ℕ} (s a b : ℕ) (hs : s < S) (ha : a < A) (hb : b < B) : (⟨3, ![S, A, B]⟩ : Shape).Idx
  | 0 => ⟨s, hs⟩
  | 1 => ⟨a, ha⟩
  | 2 => ⟨b, hb⟩

theorem ext2 {A B : ℕ} {i j : (⟨2, ![A, B]⟩ : Shape).Idx} (h0 : (i 0).val = (j 0).val) (h1 : (i 1).val = (j 1).val) : i = j := by
  funext a; match a with
  | 0 => exact Fin.ext h0
  | 1 => exact Fin.ext h1

theorem ext3 {S A B : ℕ} {i j : (⟨3, ![S, A, B]⟩ : Shape).Idx} (h0 : (i 0).val = (j 0).val) (h1 : (i 1).val = (j 1).val)
    (h2 : (i 2).val = (j 2).val) : i = j := by
  funext a; match a with
  | 0 => exact Fin.ext h0
  | 1 => exact Fin.ext h1
  | 2 => exact Fin.ext h2

theorem lt0 {A B : ℕ} (i : (⟨2, ![A, B]⟩ : Shape).Idx) : (i 0).val < A := (i 0).isLt
theorem lt1 {A B : ℕ} (i : (⟨2, ![A, B]⟩ : Shape).Idx) : (i 1).val < B := (i 1).isLt
theorem lt0' {S A B : ℕ} (i : (⟨3, ![S, A, B]⟩ : Shape).Idx) : (i 0).val < S := (i 0).isLt
theorem lt1' {S A B : ℕ} (i : (⟨3, ![S, A, B]⟩ : Shape).Idx) : (i 1).val < A := (i 1).isLt
theorem lt2' {S A B : ℕ} (i : (⟨3, ![S, A, B]⟩ : Shape).Idx) : (i 2).val < B := (i 2).isLt

theorem rows_inb {A B lo n : ℕ} (h : lo + n ≤ A) : ∀ a : Fin 2, (![lo, 0] : Fin 2 → ℕ) a + (![n, B] : Fin 2 → ℕ) a ≤ (![A, B] : Fin 2 → ℕ) a
  | 0 => h
  | 1 => by show 0 + B ≤ B; omega

theorem slab_inb {S A B s lo n : ℕ} (hs : s < S) (h : lo + n ≤ A) :
    ∀ a : Fin 3, (![s, lo, 0] : Fin 3 → ℕ) a + (![1, n, B] : Fin 3 → ℕ) a ≤ (![S, A, B] : Fin 3 → ℕ) a
  | 0 => hs
  | 1 => h
  | 2 => by show 0 + B ≤ B; omega

/-- The `n` rows from `lo` on of a matrix. -/
abbrev rows (A B lo n : ℕ) (h : lo + n ≤ A) : Rect ⟨2, ![A, B]⟩ := Rect.unit (s := ⟨2, ![A, B]⟩) ![lo, 0] ![n, B] (rows_inb h)

/-- The `n` rows from `lo` on of layer `s` of a stack. -/
abbrev slab (S A B s lo n : ℕ) (hs : s < S) (h : lo + n ≤ A) : Rect ⟨3, ![S, A, B]⟩ :=
  Rect.unit (s := ⟨3, ![S, A, B]⟩) ![s, lo, 0] ![1, n, B] (slab_inb hs h)

theorem mem_rows {A B lo n : ℕ} {h : lo + n ≤ A} {i : (⟨2, ![A, B]⟩ : Shape).Idx} :
    i ∈ (rows A B lo n h).set ↔ lo ≤ (i 0).val ∧ (i 0).val < lo + n := by
  rw [(rows A B lo n h).mem_set]
  constructor
  · intro hi
    obtain ⟨j, hj, e⟩ := hi 0
    have hj' : j < n := hj
    have e' : (i 0).val = lo + 1 * j := e
    omega
  · rintro ⟨h1, h2⟩ a
    match a with
    | 0 => exact ⟨(i 0).val - lo, by show _ < n; omega, by show (i 0).val = lo + 1 * _; omega⟩
    | 1 => exact ⟨(i 1).val, lt1 i, by show (i 1).val = 0 + 1 * _; omega⟩

theorem mem_slab {S A B s lo n : ℕ} {hs : s < S} {h : lo + n ≤ A} {i : (⟨3, ![S, A, B]⟩ : Shape).Idx} :
    i ∈ (slab S A B s lo n hs h).set ↔ (i 0).val = s ∧ lo ≤ (i 1).val ∧ (i 1).val < lo + n := by
  rw [(slab S A B s lo n hs h).mem_set]
  constructor
  · intro hi
    obtain ⟨j, hj, e⟩ := hi 1
    obtain ⟨j0, hj0, e0⟩ := hi 0
    have hj' : j < n := hj
    have e' : (i 1).val = lo + 1 * j := e
    have hj0' : j0 < 1 := hj0
    have e0' : (i 0).val = s + 1 * j0 := e0
    omega
  · rintro ⟨h0, h1, h2⟩ a
    match a with
    | 0 => exact ⟨0, Nat.one_pos, by show (i 0).val = s + 1 * _; omega⟩
    | 1 => exact ⟨(i 1).val - lo, by show _ < n; omega, by show (i 1).val = lo + 1 * _; omega⟩
    | 2 => exact ⟨(i 2).val, lt2' i, by show (i 2).val = 0 + 1 * _; omega⟩

/-- Where a block's own index lies in the matrix. -/
theorem rows_emb {A B lo n : ℕ} {h : lo + n ≤ A} (j : (⟨2, ![n, B]⟩ : Shape).Idx) :
    (rows A B lo n h).emb j = at2 (lo + (j 0).val) (j 1).val (by have := lt0 j; omega) (lt1 j) :=
  ext2 (by show lo + 1 * (j 0).val = lo + (j 0).val; omega) (by show 0 + 1 * (j 1).val = (j 1).val; omega)

/-- Where a block's own index lies in the stack. -/
theorem slab_emb {S A B s lo n : ℕ} {hs : s < S} {h : lo + n ≤ A} (j : (⟨3, ![1, n, B]⟩ : Shape).Idx) :
    (slab S A B s lo n hs h).emb j = at3 s (lo + (j 1).val) (j 2).val hs (by have := lt1' j; omega) (lt2' j) :=
  ext3 (by show s + 1 * (j 0).val = s; have := lt0' j; omega) (by show lo + 1 * (j 1).val = lo + (j 1).val; omega)
    (by show 0 + 1 * (j 2).val = (j 2).val; omega)

/-- Dropping the layer axis of a block of one layer: row and column stay. -/
theorem slab_emb_drop {S A B s lo n : ℕ} {hs : s < S} {h : lo + n ≤ A}
    (hn : (⟨2, ![n, B]⟩ : Shape).numel = (⟨3, ![1, n, B]⟩ : Shape).numel) (j : (⟨2, ![n, B]⟩ : Shape).Idx) :
    (slab S A B s lo n hs h).emb (Shape.reshapeEquiv hn j) = at3 s (lo + (j 0).val) (j 1).val hs (by have := lt0 j; omega) (lt1 j) := by
  rw [Shape.reshapeEquiv_cons_one hn j, slab_emb]; rfl

theorem rows_disjoint {A B lo n lo' n' : ℕ} {h : lo + n ≤ A} {h' : lo' + n' ≤ A} (hd : lo + n ≤ lo' ∨ lo' + n' ≤ lo) :
    Disjoint (rows A B lo n h).set (rows A B lo' n' h').set := by
  rw [Finset.disjoint_left]; intro i h1 h2
  rw [mem_rows] at h1 h2; omega

theorem slab_disjoint {S A B s lo n s' lo' n' : ℕ} {hs : s < S} {h : lo + n ≤ A} {hs' : s' < S} {h' : lo' + n' ≤ A}
    (hd : s ≠ s' ∨ lo + n ≤ lo' ∨ lo' + n' ≤ lo) :
    Disjoint (slab S A B s lo n hs h).set (slab S A B s' lo' n' hs' h').set := by
  rw [Finset.disjoint_left]; intro i h1 h2
  rw [mem_slab] at h1 h2; omega

theorem block_le {k n A : ℕ} (hA : k * n ≤ A) (t : Fin k) : n * t.val + n ≤ A := by
  have h1 : n * t.val + n = n * (t.val + 1) := (Nat.mul_succ _ _).symm
  have h2 : n * (t.val + 1) ≤ n * k := Nat.mul_le_mul_left _ t.isLt
  have h3 : n * k = k * n := Nat.mul_comm _ _
  omega

theorem step_le {n t t' : ℕ} (h : t ≠ t') : n * t + n ≤ n * t' ∨ n * t' + n ≤ n * t := by
  rcases Nat.lt_or_gt_of_ne h with h | h
  · left; have : n * (t + 1) ≤ n * t' := Nat.mul_le_mul_left _ h
    rw [Nat.mul_succ] at this; exact this
  · right; have : n * (t' + 1) ≤ n * t := Nat.mul_le_mul_left _ h
    rw [Nat.mul_succ] at this; exact this

theorem div_bounds {n v k : ℕ} (hn : 0 < n) (h : v < n * k) : v / n < k ∧ n * (v / n) ≤ v ∧ v < n * (v / n) + n := by
  have hm := Nat.div_add_mod v n
  have := Nat.mod_lt v hn
  have : v / n < k := Nat.div_lt_of_lt_mul h
  exact ⟨this, by omega, by omega⟩

/-- `k` blocks of `n` rows each, from row `lo` on, make the block of all their rows. -/
theorem rows_cut {A B lo n k : ℕ} (hn : 0 < n) (h : lo + n * k ≤ A) (hk : ∀ t : Fin k, (lo + n * t.val) + n ≤ A) :
    (rows A B lo (n * k) h).set = Finset.univ.biUnion fun t : Fin k => (rows A B (lo + n * t.val) n (hk t)).set := by
  ext i
  simp only [Finset.mem_biUnion, Finset.mem_univ, true_and, mem_rows]
  constructor
  · rintro ⟨h1, h2⟩
    obtain ⟨h3, h4, h5⟩ := div_bounds (v := (i 0).val - lo) (k := k) hn (by omega)
    exact ⟨⟨_, h3⟩, by dsimp only; omega, by dsimp only; omega⟩
  · rintro ⟨t, h1, h2⟩
    have : n * t.val + n ≤ n * k := by rw [← Nat.mul_succ]; exact Nat.mul_le_mul_left _ t.isLt
    omega

/-- The same in one layer of a stack. -/
theorem slab_cut {S A B s lo n k : ℕ} {hs : s < S} (hn : 0 < n) (h : lo + n * k ≤ A) (hk : ∀ t : Fin k, (lo + n * t.val) + n ≤ A) :
    (slab S A B s lo (n * k) hs h).set = Finset.univ.biUnion fun t : Fin k => (slab S A B s (lo + n * t.val) n hs (hk t)).set := by
  ext i
  simp only [Finset.mem_biUnion, Finset.mem_univ, true_and, mem_slab]
  constructor
  · rintro ⟨h0, h1, h2⟩
    obtain ⟨h3, h4, h5⟩ := div_bounds (v := (i 1).val - lo) (k := k) hn (by omega)
    exact ⟨⟨_, h3⟩, h0, by dsimp only; omega, by dsimp only; omega⟩
  · rintro ⟨t, h0, h1, h2⟩
    have : n * t.val + n ≤ n * k := by rw [← Nat.mul_succ]; exact Nat.mul_le_mul_left _ t.isLt
    omega

/-- All rows are the whole matrix. -/
theorem rows_univ {A B : ℕ} (h : 0 + A ≤ A) : (rows A B 0 A h).set = Finset.univ := by
  ext i; simp only [mem_rows, Finset.mem_univ, iff_true]; have := lt0 i; omega

/-- The layers make the whole stack. -/
theorem slab_univ {S A B : ℕ} (h : 0 + A ≤ A) :
    (Finset.univ : Finset (⟨3, ![S, A, B]⟩ : Shape).Idx) = Finset.univ.biUnion fun s : Fin S => (slab S A B s.val 0 A s.isLt h).set := by
  ext i
  simp only [Finset.mem_biUnion, Finset.mem_univ, true_and, mem_slab, true_iff]
  exact ⟨⟨_, lt0' i⟩, rfl, Nat.zero_le _, by have := lt1' i; omega⟩

end Cert.Blocks

end
-- ==== Proof.KernelIdeal.Schedule.lean ====
/-
# The kernel's exchange: devices, cells, contents, schedule

Four devices hold a block of columns of `x` and the whole of `w` each. Device `c` casts the rows of its block that the
other devices want, sends them, and adds up the products of the four blocks of its own rows with the matching rows of
`w`. Every semaphore of the kernel is here a cell of the rounds library:

* cell 0, the runtime's barrier: three duties of one unit in round 0, one of each other device `d`, which hands over
  the slot of `d`'s landing buffer that this device is to write;
* cells 1 to 10, the completions of this device's own sends: the sent rows come back;
* cells 11 to 14, the landings of the two neighbours' blocks (cell `11 + s` of the sender `s`): the slot, filled;
* cells 15 to 22, the landings of the eight slices of the block of the device across: the slice, filled;
* cell 23, unused;
* cells 24 and 25, the copies of the rows of `w` into the two staging slots, two rounds each: the slot, filled, and
  the rows of `w` back.
-/
module

public import proofs.«01_k».proof.Proof.Blocks
public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

noncomputable section

namespace Cert.KernelIdeal.Mesh

open Cert.KernelIdeal Cert.KernelIdeal.Gen Cert.Blocks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-! ## The resources: the pipeline library's rounds and the exchange's (duties named by a device) -/

abbrev UB : Type := URounds (GSem nD τ sig) (Dev nD)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-- The memory at launch: any contents, every semaphore counter zero, any generator registers. -/
def s₀ : MemSt nD τ sig (Elt F) := ⟨m, fun _ => 0, ρ⟩

/-! ## The devices around the ring -/

set_option backward.proofsInPublic true in
def right (c : Dev nD) : Dev nD := ⟨(c.val + 1) % 4, Nat.mod_lt _ (by decide)⟩
set_option backward.proofsInPublic true in
def diag (c : Dev nD) : Dev nD := ⟨(c.val + 2) % 4, Nat.mod_lt _ (by decide)⟩
set_option backward.proofsInPublic true in
def left (c : Dev nD) : Dev nD := ⟨(c.val + 3) % 4, Nat.mod_lt _ (by decide)⟩

theorem diag_diag (c : Dev nD) : diag (diag c) = c := by revert c; decide
theorem left_right (c : Dev nD) : left (right c) = c := by revert c; decide
theorem right_left (c : Dev nD) : right (left c) = c := by revert c; decide

/-- The other device, seen from device `c`, listed with `c` itself: all four. -/
theorem four_nodup (c : Dev nD) : [c, right c, left c, diag c].Nodup := by revert c; decide
theorem four_all (c : Dev nD) : ∀ d : Dev nD, d ∈ [c, right c, left c, diag c] := by revert c; decide

theorem dev1_eq (c : Dev nD) : (⟨k0_dev1 c, k0_dev1_lt c⟩ : Dev nD) = right c := by revert c; decide
theorem dev2_eq (c : Dev nD) : (⟨k0_dev2 c, k0_dev2_lt c⟩ : Dev nD) = diag c := by revert c; decide
theorem dev3_eq (c : Dev nD) : (⟨k0_dev3 c, k0_dev3_lt c⟩ : Dev nD) = left c := by revert c; decide
theorem dev4_eq (c : Dev nD) : (⟨k0_dev4 c, k0_dev4_lt c⟩ : Dev nD) = right c := by revert c; decide
theorem dev5_eq (c : Dev nD) : (⟨k0_dev5 c, k0_dev5_lt c⟩ : Dev nD) = left c := by revert c; decide
theorem dev6_eq (c : Dev nD) : (⟨k0_dev6 c, k0_dev6_lt c⟩ : Dev nD) = diag c := by revert c; decide
theorem dev7_eq (c : Dev nD) : (⟨k0_dev7 c, k0_dev7_lt c⟩ : Dev nD) = diag c := by revert c; decide
theorem dev8_eq (c : Dev nD) : (⟨k0_dev8 c, k0_dev8_lt c⟩ : Dev nD) = diag c := by revert c; decide
theorem dev9_eq (c : Dev nD) : (⟨k0_dev9 c, k0_dev9_lt c⟩ : Dev nD) = diag c := by revert c; decide
theorem dev10_eq (c : Dev nD) : (⟨k0_dev10 c, k0_dev10_lt c⟩ : Dev nD) = diag c := by revert c; decide
theorem dev11_eq (c : Dev nD) : (⟨k0_dev11 c, k0_dev11_lt c⟩ : Dev nD) = diag c := by revert c; decide
theorem dev12_eq (c : Dev nD) : (⟨k0_dev12 c, k0_dev12_lt c⟩ : Dev nD) = diag c := by revert c; decide
theorem dev13_eq (c : Dev nD) : (⟨k0_dev13 c, k0_dev13_lt c⟩ : Dev nD) = diag c := by revert c; decide

/-! ## The cells -/

/-- The runtime's barrier semaphore of the kernel's collective id. -/
abbrev barS : Sem sig := (SemArray.scalar (sig.barrier 0 rfl) : Sems sig S_).sem

/-- The semaphore of each cell: the barrier, then the kernel's own in their order. -/
def csem (k : Fin 26) : SemLoc sig := if k = 0 then .reg barS else .dma ⟨k.val + 1, by have := k.isLt; show k.val + 1 < 27; omega⟩

abbrev kcell (c : Dev nD) (k : Fin 26) : GSem nD τ sig := ((c : Thread nD τ), csem k)

abbrev barK : Fin 26 := 0
/-- The cell of this device's send number `j`. -/
abbrev sendK (j : Fin 10) : Fin 26 := ⟨1 + j.val, by have := j.isLt; omega⟩
/-- The cell where device `s`'s block lands. -/
abbrev recvK (s : Dev nD) : Fin 26 := ⟨11 + s.val, by have : s.val < 4 := s.isLt; omega⟩
/-- The cell where slice `q` of the block of the device across lands. -/
abbrev sliceK (q : Fin 8) : Fin 26 := ⟨15 + q.val, by have := q.isLt; omega⟩
/-- The cell of the copies of `w` into staging slot `u`. -/
abbrev copyK (u : Fin 2) : Fin 26 := ⟨24 + u.val, by have := u.isLt; omega⟩

/-- The cell a semaphore is, by number; the pipeline's staging semaphores are given a number past the cells. -/
def num : SemLoc sig → ℕ
  | .reg _ => 0
  | .dma q => if q.val < 2 then 26 else q.val - 1

theorem num_csem (k : Fin 26) : num (csem k) = k.val := by revert k; decide

theorem csem_inj {k k' : Fin 26} (h : csem k = csem k') : k = k' := Fin.ext (by rw [← num_csem k, ← num_csem k', h])

theorem kcell_inj {c c' : Dev nD} {k k' : Fin 26} : kcell c k = kcell c' k' ↔ c = c' ∧ k = k' :=
  ⟨fun h => ⟨congrArg (fun g : GSem nD τ sig => g.1.1) h, csem_inj (congrArg Prod.snd h)⟩, fun ⟨h, h'⟩ => by rw [h, h']⟩

/-! ## The amounts -/

/-- A whole block's amount, a slice's, and that of a copy of a block of `w`. -/
abbrev NB : ℕ := (Memref.whole cc0_scratch1 : Memref sig .tc .vmem S4x1024x1024 .bf16).view.buf |> fun b => sig.dmaCredit .tc (Kind.tc.table .vmem) b S1024x1024 .bf16
abbrev NQ : ℕ := (Memref.whole cc0_scratch1 : Memref sig .tc .vmem S4x1024x1024 .bf16).view.buf |> fun b => sig.dmaCredit .tc (Kind.tc.table .vmem) b S128x1024 .bf16
abbrev NW : ℕ := (Memref.whole cc0_scratch2 : Memref sig .tc .vmem S2x1024x2048 .f32).view.buf |> fun b => sig.dmaCredit .tc (Kind.tc.table .vmem) b S1024x2048 .f32

theorem NB_pos : 0 < NB := sig.dmaCredit_pos _ _ _ _ _ (by decide)
theorem NQ_pos : 0 < NQ := sig.dmaCredit_pos _ _ _ _ _ (by decide)
theorem NW_pos : 0 < NW := sig.dmaCredit_pos _ _ _ _ _ (by decide)

/-! ## The contents -/

theorem block_lt {d : Dev nD} {a : ℕ} (h : a < 1024) : 1024 * d.val + a < 4096 := by have : d.val < 4 := d.isLt; omega
theorem block_le' (d : Dev nD) : 1024 * d.val + 1024 ≤ 4096 := by have : d.val < 4 := d.isLt; omega
theorem slice_le (q : Fin 8) : 128 * q.val + 128 ≤ 1024 := by have := q.isLt; omega

/-- Device `c`'s block of columns of `x`, as it stands in the staging buffer. -/
def xin (c : Dev nD) : S4096x1024.Idx → Elt F .f32 :=
  (win0_0.blk (0 : Fin 1)).view.read (Elt F) ((s₀ m ρ).mem ((c : Thread nD τ).loc main_arg0))

/-- Device `c`'s copy of `w`. -/
def win (c : Dev nD) : S4096x2048.Idx → Elt F .f32 := (s₀ m ρ).mem ((c : Thread nD τ).loc main_arg1)

/-- The cast block of `x`. -/
def xcast (c : Dev nD) : S4096x1024.Idx → Elt F .bf16 := fun i => FloatOps.truncf .bf16 bitsLt_bf16_f32 (xin m ρ c i)

/-- Device `d`'s landing buffer, all slots filled: slot `s` holds the cast rows of device `s` that `d` computes. -/
def landed (d : Dev nD) : S4x1024x1024.Idx → Elt F .bf16 := fun i =>
  xcast m ρ (i 0) (at2 (1024 * d.val + (i 1).val) (i 2).val (block_lt (lt1' i)) (lt2' i))

/-- A staging buffer of `c` holding the rows of `w` that belong to device `s`, in either slot. -/
def wrows (c s : Dev nD) : S2x1024x2048.Idx → Elt F .f32 := fun i =>
  win m ρ c (at2 (1024 * s.val + (i 1).val) (i 2).val (block_lt (lt1' i)) (lt2' i))

/-! ## The regions -/

/-- `n` rows from `lo` on of the cast block, holding the cast. -/
def xRegion (c : Dev nD) (lo n : ℕ) (h : lo + n ≤ 4096) : sProp 𝕄 :=
  ((c : Thread nD τ).loc cc0_scratch0) ↦[(rows 4096 1024 lo n h).set]{fullShare} xcast m ρ c

/-- `n` rows from `lo` on of slot `s` of `d`'s landing buffer, filled. -/
def lRegion (d s : Dev nD) (lo n : ℕ) (h : lo + n ≤ 1024) : sProp 𝕄 :=
  ((d : Thread nD τ).loc cc0_scratch1) ↦[(slab 4 1024 1024 s.val lo n s.isLt h).set]{fullShare} landed m ρ d

/-- The same rows at any contents. -/
def lFree (d s : Dev nD) (lo n : ℕ) (h : lo + n ≤ 1024) : sProp 𝕄 :=
  iprop(∃ f : Buf (Elt F) ((d : Thread nD τ).loc cc0_scratch1), ((d : Thread nD τ).loc cc0_scratch1) ↦[(slab 4 1024 1024 s.val lo n s.isLt h).set]{fullShare} f)

/-- Staging slot `u` holding the rows of `w` of device `s`. -/
def gRegion (c : Dev nD) (u : Fin 2) (s : Dev nD) : sProp 𝕄 :=
  ((c : Thread nD τ).loc cc0_scratch2) ↦[(slab 2 1024 2048 u.val 0 1024 u.isLt (by decide)).set]{fullShare} wrows m ρ c s

/-- Staging slot `u` at any contents. -/
def gFree (c : Dev nD) (u : Fin 2) : sProp 𝕄 :=
  iprop(∃ f : Buf (Elt F) ((c : Thread nD τ).loc cc0_scratch2), ((c : Thread nD τ).loc cc0_scratch2) ↦[(slab 2 1024 2048 u.val 0 1024 u.isLt (by decide)).set]{fullShare} f)

/-- The rows of `w` of device `s`, where they come from. -/
def wRegion (c s : Dev nD) : sProp 𝕄 :=
  ((c : Thread nD τ).loc main_arg1) ↦[(rows 4096 2048 (1024 * s.val) 1024 (block_le' s)).set]{fullShare} win m ρ c

instance xRegion_storable (c : Dev nD) (lo n h) : BI.Storable (upEmb : UEmb _ 𝕄) (xRegion m ρ c lo n h) := by unfold xRegion; infer_instance
instance lRegion_storable (d s : Dev nD) (lo n h) : BI.Storable (upEmb : UEmb _ 𝕄) (lRegion m ρ d s lo n h) := by unfold lRegion; infer_instance
omit [FloatOps F] in
instance lFree_storable (d s : Dev nD) (lo n h) : BI.Storable (upEmb : UEmb _ 𝕄) (lFree (F := F) d s lo n h) := by unfold lFree; infer_instance
omit [FloatOps F] in
instance gRegion_storable (c : Dev nD) (u : Fin 2) (s) : BI.Storable (upEmb : UEmb _ 𝕄) (gRegion m ρ c u s) := by unfold gRegion; infer_instance
omit [FloatOps F] in
instance wRegion_storable (c s : Dev nD) : BI.Storable (upEmb : UEmb _ 𝕄) (wRegion m ρ c s) := by unfold wRegion; infer_instance

/-! ## The schedule -/

/-- Whose rows of `w` round `r` brings to staging slot `u`. -/
def copied (c : Dev nD) (u r : ℕ) : Dev nD := if u = 0 then (if r = 0 then c else left c) else (if r = 0 then right c else diag c)

/-- The rows device `c` sends with its send number `j`: two whole blocks, then eight slices of the block across. -/
def sentLo (c : Dev nD) (j : ℕ) : ℕ := if j = 0 then 1024 * (right c).val else if j = 1 then 1024 * (left c).val else 1024 * (diag c).val + 128 * (j - 2)
def sentN (j : ℕ) : ℕ := if j < 2 then 1024 else 128

theorem sent_le (c : Dev nD) (j : ℕ) (hj : j < 10) : sentLo c j + sentN j ≤ 4096 := by
  have h1 := block_le' (right c); have h2 := block_le' (left c); have h3 := block_le' (diag c)
  unfold sentLo sentN; split_ifs <;> omega

def dutiesN (c : Dev nD) (n r : ℕ) : Finset (Dev nD) :=
  if n = 0 then (if r = 0 then {right c, diag c, left c} else ∅)
  else if n < 11 then (if r = 0 then {0} else ∅)
  else if n < 15 then (if r = 0 ∧ (n = 11 + (right c).val ∨ n = 11 + (left c).val) then {0} else ∅)
  else if n < 23 then (if r = 0 then {0} else ∅)
  else if n = 24 ∨ n = 25 then (if r < 2 then {0} else ∅)
  else ∅

def amountN (n : ℕ) : ℕ :=
  if n = 0 then 1 else if n < 3 then NB else if n < 11 then NQ else if n < 15 then NB else if n < 23 then NQ else NW

def payloadN (c : Dev nD) (n r : ℕ) (d : Dev nD) : sProp 𝕄 :=
  if n = 0 then lFree d c 0 1024 (by decide)
  else if h : 1 ≤ n ∧ n < 11 then xRegion m ρ c (sentLo c (n - 1)) (sentN (n - 1)) (sent_le c _ (by omega))
  else if h : 11 ≤ n ∧ n < 15 then lRegion m ρ c ⟨n - 11, by show n - 11 < 4; omega⟩ 0 1024 (by decide)
  else if h : 15 ≤ n ∧ n < 23 then lRegion m ρ c (diag c) (128 * (n - 15)) 128 (by omega)
  else if h : 24 ≤ n ∧ n < 26 then iprop(gRegion m ρ c ⟨n - 24, by omega⟩ (copied c (n - 24) r) ∗ wRegion m ρ c (copied c (n - 24) r))
  else iprop(emp)

def exch : Rounds.Schedule (GSem nD τ sig) (Dev nD) 𝕄 where
  duties g r := dutiesN g.1.1 (num g.2) r
  unitless _ := False
  amount g _ _ := amountN (num g.2)
  payload g r d := payloadN m ρ g.1.1 (num g.2) r d
  amount_pos g _ _ _ := by
    have := NB_pos; have := NQ_pos; have := NW_pos
    unfold amountN; split_ifs <;> first | exact Nat.one_pos | assumption

instance exch_payload_storable (g : GSem nD τ sig) (r : ℕ) (d : Dev nD) : BI.Storable (upEmb : UEmb _ 𝕄) ((exch (F := F) m ρ).payload g r d) := by
  show BI.Storable upEmb (payloadN m ρ g.1.1 (num g.2) r d)
  unfold payloadN
  (repeat' split) <;> infer_instance

theorem exch_duties (c : Dev nD) (k : Fin 26) (r : ℕ) : (exch (F := F) m ρ).duties (kcell c k) r = dutiesN c k.val r := by
  show dutiesN c (num (csem k)) r = _; rw [num_csem]
theorem exch_amount (c : Dev nD) (k : Fin 26) (r : ℕ) (d : Dev nD) : (exch (F := F) m ρ).amount (kcell c k) r d = amountN k.val := by
  show amountN (num (csem k)) = _; rw [num_csem]
theorem exch_payload (c : Dev nD) (k : Fin 26) (r : ℕ) (d : Dev nD) : (exch (F := F) m ρ).payload (kcell c k) r d = payloadN m ρ c k.val r d := by
  show payloadN m ρ c (num (csem k)) r d = _; rw [num_csem]

/-- A cell with one duty in a round expects that duty's amount, -/
theorem expect_one (c : Dev nD) (k : Fin 26) (r : ℕ) (h : dutiesN c k.val r = {0}) : (exch (F := F) m ρ).expect (kcell c k) r = amountN k.val := by
  unfold Schedule.expect Schedule.amountOf; rw [exch_duties, h, Finset.sum_singleton, exch_amount]
/-- and its wait brings that duty's payload. -/
theorem rest_one (c : Dev nD) (k : Fin 26) (r : ℕ) (h : dutiesN c k.val r = {0}) :
    bigSep ((exch (F := F) m ρ).duties (kcell c k) r \ ∅) (fun d => (exch (F := F) m ρ).payload (kcell c k) r d) = payloadN m ρ c k.val r 0 := by
  rw [Finset.sdiff_empty, exch_duties, h, bigSep_singleton, exch_payload]

theorem duties_bar (c : Dev nD) : dutiesN c 0 0 = {right c, diag c, left c} := rfl
theorem expect_bar (c : Dev nD) : (exch (F := F) m ρ).expect (kcell c 0) 0 = 3 := by
  unfold Schedule.expect Schedule.amountOf
  rw [Finset.sum_congr rfl fun d _ => exch_amount m ρ c 0 0 d, exch_duties, Finset.sum_const]
  show (({right c, diag c, left c} : Finset (Dev nD)).card) • 1 = 3
  rw [show ({right c, diag c, left c} : Finset (Dev nD)).card = 3 from by revert c; decide]; rfl
/-- The barrier brings the three slots this device is to write. -/
theorem rest_bar (c : Dev nD) :
    bigSep ((exch (F := F) m ρ).duties (kcell c 0) 0 \ ∅) (fun d => (exch (F := F) m ρ).payload (kcell c 0) 0 d)
      = iprop(lFree (right c) c 0 1024 (by decide) ∗ lFree (diag c) c 0 1024 (by decide) ∗ lFree (left c) c 0 1024 (by decide)) := by
  rw [Finset.sdiff_empty, exch_duties,
    bigSep_eq_bigSepL_of_eq [right c, diag c, left c] (by revert c; decide) (by revert c; decide)]
  rfl

/-- No cell but the two of the copies has a duty after round 0, -/
theorem duties_later (c : Dev nD) (k : Fin 26) (hk : k.val < 24) : ∀ r, 1 ≤ r → (exch (F := F) m ρ).duties (kcell c k) r = ∅ := by
  intro r hr
  rw [exch_duties]; unfold dutiesN; split_ifs <;> first | rfl | omega
/-- those none after round 1, -/
theorem duties_later2 (c : Dev nD) (k : Fin 26) : ∀ r, 2 ≤ r → (exch (F := F) m ρ).duties (kcell c k) r = ∅ := by
  intro r hr
  rw [exch_duties]; unfold dutiesN; split_ifs <;> first | rfl | omega
/-- and the unused ones none at all. -/
theorem duties_never (c : Dev nD) (k : Fin 26) (hk : ∀ r, dutiesN c k.val r = ∅) : ∀ r, 0 ≤ r → (exch (F := F) m ρ).duties (kcell c k) r = ∅ :=
  fun r _ => by rw [exch_duties, hk]

/-! ## What each device owes at launch; the levels -/

/-- The credits of the last `n` slices, owed to the device across. -/
def oweS (c : Dev nD) : ℕ → CellTallies nD τ sig Unit
  | 0 => 0
  | n + 1 => oweS c n + tallyAt (kcell (diag c) ⟨22 - n, by omega⟩) () NQ

def oweL (c : Dev nD) : CellTallies nD τ sig Unit := oweS c 8 + tallyAt (kcell (left c) (recvK c)) () NB
def oweR (c : Dev nD) : CellTallies nD τ sig Unit := oweL c + tallyAt (kcell (right c) (recvK c)) () NB
def oweB1 (c : Dev nD) : CellTallies nD τ sig Unit := oweR c + tallyAt (kcell (left c) barK) () 1
def oweB2 (c : Dev nD) : CellTallies nD τ sig Unit := oweB1 c + tallyAt (kcell (diag c) barK) () 1
/-- All that device `c` owes: a unit to every other device's barrier, its block to both neighbours, eight slices to the device across. -/
def O₀ (c : Dev nD) : CellTallies nD τ sig Unit := oweB2 c + tallyAt (kcell (right c) barK) () 1

def L (g : GSem nD τ sig) : Finset Unit := if g.1.2 = .tc then {()} else ∅
def lvN (n : ℕ) : ℕ := if n = 0 then 1 else if 11 ≤ n ∧ n < 23 then 2 else 0
/-- Barriers come before landings, all else before both. -/
def lv (g : GSem nD τ sig) (_ : Unit) : ℕ := lvN (num g.2)

theorem L_of_ne (g : GSem nD τ sig) (h : g.1.2 ≠ .tc) : L g = ∅ := if_neg h
theorem L_tc (c : Dev nD) (sm : SemLoc sig) : L ((c : Thread nD τ), sm) = {()} := if_pos rfl
theorem lv_kcell (c : Dev nD) (k : Fin 26) (u : Unit) : lv (kcell c k) u = lvN k.val := by unfold lv; rw [num_csem]

theorem tally_pos {O : CellTallies nD τ sig Unit} {g g' : GSem nD τ sig} {n : ℕ} {u : Unit} (h : 0 < (O + tallyAt g' () n) g u) : g = g' ∨ 0 < O g u := by
  rw [Pi.add_apply, Finsupp.add_apply, tallyAt_apply] at h
  by_cases h' : g = g' ∧ u = ()
  · exact Or.inl h'.1
  · rw [if_neg h', Nat.add_zero] at h; exact Or.inr h

theorem oweS_pos {c : Dev nD} : ∀ {n : ℕ} {g : GSem nD τ sig} {u : Unit}, n ≤ 8 → 0 < oweS c n g u → ∃ (o : Dev nD) (k : Fin 26), g = kcell o k ∧ lvN k.val = 2
  | 0, g, u, _, h => absurd h (Nat.lt_irrefl 0)
  | n + 1, g, u, hn, h => by
    rcases tally_pos h with h | h
    · exact ⟨_, _, h, by unfold lvN; rw [if_neg (by dsimp only; omega), if_pos (by dsimp only; omega)]⟩
    · exact oweS_pos (by omega) h

theorem lvN_recv (s : Dev nD) : lvN (recvK s).val = 2 := by revert s; decide

/-- What is still owed at the barrier's wait: landings only. -/
theorem oweR_pos {c : Dev nD} {g : GSem nD τ sig} {u : Unit} (h : 0 < oweR c g u) : ∃ (o : Dev nD) (k : Fin 26), g = kcell o k ∧ lvN k.val = 2 := by
  rcases tally_pos h with h | h
  · exact ⟨_, _, h, lvN_recv c⟩
  rcases tally_pos h with h | h
  · exact ⟨_, _, h, lvN_recv c⟩
  exact oweS_pos le_rfl h

theorem O₀_pos {c : Dev nD} {g : GSem nD τ sig} {u : Unit} (h : 0 < O₀ c g u) : ∃ (o : Dev nD) (k : Fin 26), g = kcell o k ∧ 0 < lvN k.val := by
  rcases tally_pos h with h | h
  · exact ⟨_, _, h, by decide⟩
  rcases tally_pos h with h | h
  · exact ⟨_, _, h, by decide⟩
  rcases tally_pos h with h | h
  · exact ⟨_, _, h, by decide⟩
  obtain ⟨o, k, h1, h2⟩ := oweR_pos h
  exact ⟨o, k, h1, by rw [h2]; decide⟩

omit [FloatOps F] in
/-- A staging semaphore may be waited for whatever is owed. -/
theorem mayWait_stage (c : Dev nD) (q : DmaSem sig) (hq : lvN (num (.dma q)) = 0) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨o, k, rfl, _⟩ := O₀_pos hg; exact Finset.mem_singleton_self _)
      (fun p hp => by rw [Finset.mem_singleton.mp hp]; exact le_of_eq hq)
      (fun g u hg => by obtain ⟨o, k, rfl, h⟩ := O₀_pos hg; rw [lv_kcell]; exact h)
  · rw [MayWait_zero]; iintro -; iempintro

omit [FloatOps F] in
/-- So may the barrier once its own signals are out. -/
theorem mayWait_bar (c : Dev nD) : (levAts L lv : sProp 𝕄) ⊢ MayWait (c : Thread nD τ) (csem barK) () (oweR c) :=
  MayOwe.of_cut (L := L) (lev := lv) 1 (fun p hp => by rw [Finset.mem_singleton.mp hp, L_tc]; exact Finset.mem_singleton_self _)
    (fun g u hg => by obtain ⟨o, k, rfl, _⟩ := oweR_pos hg; exact Finset.mem_singleton_self _)
    (fun p hp => by rw [Finset.mem_singleton.mp hp]; exact le_of_eq (lv_kcell c barK ()))
    (fun g u hg => by obtain ⟨o, k, rfl, h⟩ := oweR_pos hg; rw [lv_kcell, h]; decide)

end Cert.KernelIdeal.Mesh

end
-- ==== Proof.KernelIdeal.Steps.lean ====
/-
# One rule per kind of operation of the kernel

Each rule says what one memory operation does to the regions of Schedule.lean, at any device and for every block, slot
or slice: a load reads the stated block, a store leaves the stated contents, a transfer or copy pays its duties, and a
wait brings the payload of its cell. The program's own offsets and semaphores enter through equations.
-/
module

public import proofs.«01_k».proof.Proof.KernelIdeal.Schedule

@[expose] public section

noncomputable section

namespace Cert.KernelIdeal.Mesh

open Cert.KernelIdeal Cert.KernelIdeal.Gen Cert.Blocks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The kernel's buffers as memrefs -/

abbrev mX : Memref sig .tc .vmem S4096x1024 .f32 := Memref.whole cc0_stg0_0
abbrev mW : Memref sig .tc .hbm S4096x2048 .f32 := Memref.whole main_arg1
abbrev mO : Memref sig .tc .vmem S1024x2048 .f32 := Memref.whole cc0_stg1_0
abbrev mB : Memref sig .tc .vmem S4096x1024 .bf16 := Memref.whole cc0_scratch0
abbrev mL : Memref sig .tc .vmem S4x1024x1024 .bf16 := Memref.whole cc0_scratch1
abbrev mG : Memref sig .tc .vmem S2x1024x2048 .f32 := Memref.whole cc0_scratch2

abbrev 𝒱₀ : Variants := Variants.none

/-- Running program `p` on device `c` to the postcondition `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-! ## The ghost state -/

/-- Every cell's invariant, and that round 0 of every cell is reached. -/
def records (K : Dev nD × Fin 26 → ℕ) : sProp 𝕄 :=
  bigSep Finset.univ fun p : Dev nD × Fin 26 => iprop(cellInv ER (exch m ρ) (K p) (kcell p.1 p.2) ∗ reached ER (kcell p.1 p.2) 0)

instance records_persistent (K : Dev nD × Fin 26 → ℕ) : BI.Persistent (records m ρ K) := by unfold records; infer_instance

theorem records_at (K : Dev nD × Fin 26 → ℕ) (c : Dev nD) (k : Fin 26) :
    records m ρ K ⊢ iprop(cellInv ER (exch m ρ) (K (c, k)) (kcell c k) ∗ reached ER (kcell c k) 0) :=
  bigSep_elim (Finset.mem_univ (c, k))

/-- The token of one duty, the credit of one cell, the place of its owner at the start of round `r`, and its closing. -/
abbrev tok (c : Dev nD) (k : Fin 26) (r : ℕ) (d : Dev nD) : sProp 𝕄 := dutyTok ER (kcell c k) r d
abbrev crd (c : Dev nD) (k : Fin 26) (n : ℕ) : sProp 𝕄 := cred (tallyAt (kcell c k) () n)
abbrev pos (c : Dev nD) (k : Fin 26) (r : ℕ) : sProp 𝕄 := atPos ER (kcell c k) r ∅ 0
abbrev fin (c : Dev nD) (k : Fin 26) : sProp 𝕄 := semVal (kcell c k) 0

/-- What device `c` still owes, whatever it has waited for. -/
abbrev due (c : Dev nD) (O : CellTallies nD τ sig Unit) : sProp 𝕄 := iprop(∃ W, owes (c : Thread nD τ) O W)

variable (K : Dev nD × Fin 26 → ℕ)

/-! ## Signals and waits -/

/-- A signal to another device's barrier hands over this device's slot for it. -/
theorem signal_bar {c o d : Dev nD} (hd : d = o) (ho : c ∈ dutiesN o 0 0) {sem : Sem sig} (hs : sem = barS)
    {O' : CellTallies nD τ sig Unit} (O : CellTallies nD τ sig Unit) (hO : O' = O + tallyAt (kcell o barK) () 1)
    {α : Type} {k : PUnit → Prog (TpuEff nD τ sig (Elt F) Λ₀ .tc) α} {Q : α → sProp 𝕄} :
    iprop(records m ρ K ∗ due c O' ∗ tok o barK 0 c ∗ lFree c o 0 1024 (by decide))
      ⊢ iprop((due c O -∗ WP c (k ⟨⟩) Q) -∗ WP c (.op (.semSignal (d : Thread nD τ) sem 1) k) Q) := by
  subst hd hs
  iintro ⟨#Hr, ⟨%W, HO⟩, Ht, Hp⟩ Hk
  ihave ⟨Hi, Hre⟩ := (records_at m ρ K d barK) $$ Hr
  iapply (Rounds.wp_signal 𝒱₀ ER (exch m ρ) (c : Thread nD τ) none (dst := (d : Thread nD τ)) (sem := barS) (r := 0) (d := c) (k' := 1) (κ := K (d, barK))
    (by rw [show (((d : Thread nD τ), SemLoc.reg barS) : GSem nD τ sig) = kcell d barK from rfl, exch_duties]; exact ho)
    (exch_amount m ρ d barK 0 c) () O hO) $$ [Hi HO Ht Hp Hre]
  · isplitl [Hi]; · iexact Hi
    isplitl [HO]; · iexact HO
    isplitl [Ht]; · iexact Ht
    isplitl [Hp]
    · rw [show (exch m ρ).payload ((d : Thread nD τ), SemLoc.reg barS) 0 c = lFree c d 0 1024 (by decide) from exch_payload m ρ d barK 0 c]
      iexact Hp
    iexact Hre
  iintro HO
  iapply Hk
  iexists W
  iexact HO

/-- The wait for the three barrier units brings the slots this device is to write, and closes the barrier. -/
theorem wait_bar {c : Dev nD} {sem : Sem sig} (hs : sem = barS)
    {α : Type} {k : PUnit → Prog (TpuEff nD τ sig (Elt F) Λ₀ .tc) α} {Q : α → sProp 𝕄} :
    iprop(records m ρ K ∗ levAts L lv ∗ due c (oweR c) ∗ pos c barK 0 ∗ crd c barK 3)
      ⊢ iprop((iprop(due c (oweR c) ∗ fin c barK ∗ lFree (right c) c 0 1024 (by decide) ∗ lFree (diag c) c 0 1024 (by decide)
            ∗ lFree (left c) c 0 1024 (by decide)) -∗ WP c (k ⟨⟩) Q)
          -∗ WP c (.op (.semWait sem 3) k) Q) := by
  subst hs
  iintro ⟨#Hr, #Hlev, ⟨%W, HO⟩, Hat, Hc⟩ Hk
  ihave ⟨#Hi, -⟩ := (records_at m ρ K c barK) $$ Hr
  iapply (Rounds.wp_wait_rest_token 𝒱₀ ER (exch m ρ) (c : Thread nD τ) none (κ := K (c, barK))
    (fun _ => wpE_semWait_eq 𝒱₀ (c : Thread nD τ) none Set.univ _) (Set.mem_univ _) () (R := 0) (m := 0) (T := ∅) (O := oweR c) (W := W)
    (by rw [show (exch m ρ).expect ((c : Thread nD τ), SemLoc.reg barS) 0 = 3 from expect_bar m ρ c])) $$ [Hc HO Hat]
  · isplitr; · iexact Hi
    isplitl [Hc]; · iexact Hc
    isplitl [HO]; · iexact HO
    isplitr; · iapply (mayWait_bar c); iexact Hlev
    iexact Hat
  rw [show bigSep ((exch m ρ).duties ((c : Thread nD τ), SemLoc.reg barS) 0 \ ∅) (fun d => (exch m ρ).payload ((c : Thread nD τ), SemLoc.reg barS) 0 d) = _ from rest_bar m ρ c]
  iintro ⟨HO, Hat, -, Hp⟩
  imod (Rounds.cell_close ER (exch m ρ) (Set.mem_univ (K (c, barK))) (g := kcell c barK) not_false (duties_later m ρ c barK (by decide))) $$ [Hat] with Hv
  · isplitr; · iexact Hi
    iexact Hat
  iapply Hk
  isplitl [HO]; · iexists _; iexact HO
  isplitl [Hv]; · iexact Hv
  iexact Hp

/-- A wait on a cell with one duty in round `r` brings that duty's payload: -/
theorem wait_next {c : Dev nD} (k : Fin 26) (r : ℕ) (hd : dutiesN c k.val r = {0}) {sem : DmaSem sig} (hs : SemLoc.dma sem = csem k)
    {sp sp' : Space} {s s' : Shape} {e e' : EltTy} {src : Memref sig .tc sp' s' e'} {dst : Memref sig .tc sp s e}
    {hsrc : src.view.WordExact} {hdst : dst.view.WordExact} (N : ℕ) (hN : dst.view.dmaCredit = N) (hA : amountN k.val = N)
    {α : Type} {k' : PUnit → Prog (TpuEff nD τ sig (Elt F) Λ₀ .tc) α} {Q : α → sProp 𝕄} :
    iprop(records m ρ K ∗ due c 0 ∗ pos c k r ∗ crd c k N)
      ⊢ iprop((iprop(due c 0 ∗ pos c k (r + 1) ∗ reached ER (kcell c k) (r + 1) ∗ payloadN m ρ c k.val r 0) -∗ WP c (k' ⟨⟩) Q)
          -∗ WP c (.op (.waitDma2 sem src dst hsrc hdst) k') Q) := by
  subst hN
  iintro ⟨#Hr, ⟨%W, HO⟩, Hat, Hc⟩ Hk
  ihave ⟨#Hi, -⟩ := (records_at m ρ K c k) $$ Hr
  iapply (Rounds.wp_wait_rest_token 𝒱₀ ER (exch m ρ) (c : Thread nD τ) none (κ := K (c, k)) (sm := csem k)
    (fun P => by rw [← hs]; exact wpE_waitDma2_eq 𝒱₀ (c : Thread nD τ) none Set.univ P) (Set.mem_univ _) () (R := r) (m := 0) (T := ∅) (O := 0) (W := W)
    (by rw [show (exch m ρ).expect ((c : Thread nD τ), csem k) r = _ from expect_one m ρ c k r hd, hA, Nat.zero_add])) $$ [Hc HO Hat]
  · isplitr; · iexact Hi
    isplitl [Hc]; · iexact Hc
    isplitl [HO]; · iexact HO
    isplitr; · rw [MayWait_zero]; iempintro
    iexact Hat
  rw [show bigSep ((exch m ρ).duties ((c : Thread nD τ), csem k) r \ ∅) (fun d => (exch m ρ).payload ((c : Thread nD τ), csem k) r d) = _ from rest_one m ρ c k r hd]
  iintro ⟨HO, Hat, Hre, Hp⟩
  iapply Hk
  isplitl [HO]; · iexists _; iexact HO
  isplitl [Hat]; · iexact Hat
  isplitl [Hre]; · iexact Hre
  iexact Hp

/-- and closes the cell when it was its last. -/
theorem wait_last {c : Dev nD} (k : Fin 26) (r : ℕ) (hd : dutiesN c k.val r = {0}) (hl : ∀ r', r + 1 ≤ r' → (exch (F := F) m ρ).duties (kcell c k) r' = ∅)
    {sem : DmaSem sig} (hs : SemLoc.dma sem = csem k)
    {sp sp' : Space} {s s' : Shape} {e e' : EltTy} {src : Memref sig .tc sp' s' e'} {dst : Memref sig .tc sp s e}
    {hsrc : src.view.WordExact} {hdst : dst.view.WordExact} (N : ℕ) (hN : dst.view.dmaCredit = N) (hA : amountN k.val = N)
    {α : Type} {k' : PUnit → Prog (TpuEff nD τ sig (Elt F) Λ₀ .tc) α} {Q : α → sProp 𝕄} :
    iprop(records m ρ K ∗ due c 0 ∗ pos c k r ∗ crd c k N)
      ⊢ iprop((iprop(due c 0 ∗ fin c k ∗ payloadN m ρ c k.val r 0) -∗ WP c (k' ⟨⟩) Q)
          -∗ WP c (.op (.waitDma2 sem src dst hsrc hdst) k') Q) := by
  iintro ⟨#Hr, HO, Hat, Hc⟩ Hk
  ihave ⟨#Hi, -⟩ := (records_at m ρ K c k) $$ Hr
  iapply (wait_next m ρ K k r hd hs N hN hA) $$ [HO Hat Hc]
  · isplitr; · iexact Hr
    isplitl [HO]; · iexact HO
    isplitl [Hat] <;> iassumption
  iintro ⟨HO, Hat, -, Hp⟩
  imod (Rounds.cell_close ER (exch m ρ) (Set.mem_univ (K (c, k))) (g := kcell c k) not_false hl) $$ [Hat] with Hv
  · isplitr; · iexact Hi
    iexact Hat
  iapply Hk
  isplitl [HO]; · iexact HO
  isplitl [Hv]; · iexact Hv
  iexact Hp

/-- A cell no duty is on is closed outright. -/
theorem close_unused {c : Dev nD} (k : Fin 26) (hk : ∀ r, dutiesN c k.val r = ∅) :
    iprop(records m ρ K ∗ pos c k 0) ⊢ iprop(|={Set.univ}=> fin c k) := by
  iintro ⟨#Hr, Hat⟩
  ihave ⟨#Hi, -⟩ := (records_at m ρ K c k) $$ Hr
  iapply (Rounds.cell_close ER (exch m ρ) (Set.mem_univ (K (c, k))) (g := kcell c k) not_false (duties_never m ρ c k hk))
  isplitr; · iexact Hi
  iexact Hat

theorem ent_of_eq {P Q : sProp 𝕄} (h : P = Q) : P ⊢ Q := h ▸ BI.Entails.refl P

/-! ## Transfers -/

/-- The amount of a transfer of `n` rows into the landing buffer. -/
abbrev NR (n : ℕ) : ℕ := sig.dmaCredit .tc (Kind.tc.table .vmem) (Memref.whole cc0_scratch1 : Memref sig .tc .vmem S4x1024x1024 .bf16).view.buf ⟨2, ![n, 1024]⟩ .bf16

/-- Copying rows of the cast block into a slot fills it as `landed` says. -/
theorem landed_write {c o : Dev nD} {n lo lb : ℕ} (h : lo + n ≤ 4096) (hb : lb + n ≤ 1024) (hlo : lo = 1024 * o.val + lb)
    (sq : (⟨2, ![n, 1024]⟩ : Shape).numel = (⟨3, ![1, n, 1024]⟩ : Shape).numel)
    (f : S4x1024x1024.Idx → Elt F .bf16) (w : (⟨2, ![n, 1024]⟩ : Shape).Idx → Elt F .bf16)
    (hw : ∀ j, w j = xcast m ρ c ((rows 4096 1024 lo n h).emb j)) :
    ∀ i ∈ (slab 4 1024 1024 c.val lb n c.isLt hb).set,
      (((mL.slice (slab 4 1024 1024 c.val lb n c.isLt hb) (fun _ => rfl)).view.reshape ⟨2, ![n, 1024]⟩ sq).write (Elt F) f w Finset.univ) i = landed m ρ o i := by
  intro i hi
  rw [← Rect.map_emb_univ, Finset.mem_map] at hi
  obtain ⟨j', -, rfl⟩ := hi
  obtain ⟨j, rfl⟩ := (Shape.reshapeEquiv sq).surjective j'
  subst hlo
  refine (View.write_emb_of_mem (v := (mL.slice (slab 4 1024 1024 c.val lb n c.isLt hb) (fun _ => rfl)).view.reshape ⟨2, ![n, 1024]⟩ sq) f w (Finset.mem_univ j)).trans ?_
  refine (hw j).trans ?_
  rw [slab_emb_drop, rows_emb]
  unfold landed
  refine congrArg (xcast m ρ c) (ext2 ?_ rfl)
  show 1024 * o.val + lb + (j 0).val = 1024 * o.val + (lb + (j 0).val)
  exact Nat.add_assoc _ _ _

theorem payload_sent (c : Dev nD) (j : Fin 10) : payloadN m ρ c (sendK j).val 0 0 = xRegion m ρ c (sentLo c j.val) (sentN j.val) (sent_le c _ j.isLt) := by
  unfold payloadN
  have hj : 1 + j.val - 1 = j.val := by omega
  rw [if_neg (by dsimp only; omega), dif_pos ⟨by dsimp only; omega, by dsimp only; have := j.isLt; omega⟩]
  simp only [hj]

theorem duties_sent (c : Dev nD) (j : Fin 10) : dutiesN c (sendK j).val 0 = {0} := by revert c j; decide

/-- Sending rows of the cast block pays the send's cell with the rows back and the landing's with the rows landed. -/
theorem send_rows {c o d : Dev nD} {n : ℕ} (j : Fin 10) (t : Fin 26) (lo lb : ℕ) (h : lo + n ≤ 4096) (hb : lb + n ≤ 1024)
    (hd : d = o) (hlo : lo = 1024 * o.val + lb) (hj : sentLo c j.val = lo) (hn : sentN j.val = n)
    (ht : dutiesN o t.val 0 = {0}) (hP : payloadN m ρ o t.val 0 0 = lRegion m ρ o c lb n hb)
    (hA : amountN (1 + j.val) = NR n) (hA' : amountN t.val = NR n)
    {off : Fin 2 → ℕ} (hoff : off = ![lo, 0]) {inb : ∀ a, off a + (![n, 1024] : Fin 2 → ℕ) a ≤ S4096x1024.size a}
    {off' : Fin 3 → ℕ} (hoff' : off' = ![c.val, lb, 0]) {inb' : ∀ a, off' a + (![1, n, 1024] : Fin 3 → ℕ) a ≤ S4x1024x1024.size a}
    {sq : (⟨3, ![1, n, 1024]⟩ : Shape).Squeezes ⟨2, ![n, 1024]⟩}
    {sS sem : DmaSem sig} (hs : SemLoc.dma sS = csem (sendK j)) (hs' : SemLoc.dma sem = csem t)
    {O' : CellTallies nD τ sig Unit} (O : CellTallies nD τ sig Unit) (hO : O' = O + tallyAt (kcell o t) () (NR n))
    {hu hu'} {hsc : ((mL.slice (Rect.unit (s := S4x1024x1024) off' ![1, n, 1024] inb') hu').squeeze ⟨2, ![n, 1024]⟩ sq : Memref sig (Dev.tc d : Thread nD τ).2.kind .vmem ⟨2, ![n, 1024]⟩ .bf16).view.ref.isScScratch = false}
    {hsrc hdst hsem}
    {α : Type} {k : PUnit → Prog (TpuEff nD τ sig (Elt F) Λ₀ .tc) α} {Q : α → sProp 𝕄} :
    iprop(records m ρ K ∗ xRegion m ρ c lo n h ∗ lFree o c lb n hb ∗ due c O' ∗ tok c (sendK j) 0 0 ∗ tok o t 0 0)
      ⊢ iprop((iprop(crd c (sendK j) (NR n) ∗ due c O) -∗ WP c (k ⟨⟩) Q)
          -∗ WP c (.op (.enqueueDma (mB.slice (Rect.unit (s := S4096x1024) off ![n, 1024] inb) hu)
              (.remote (Dev.tc d : Thread nD τ) ((mL.slice (Rect.unit (s := S4x1024x1024) off' ![1, n, 1024] inb') hu').squeeze ⟨2, ![n, 1024]⟩ sq) (.dma sS) hsc)
              (.dma sem) hsrc hdst hsem) k) Q) := by
  subst hd hoff hoff' hj hn hO
  iintro ⟨#Hr, Hx, Hl, ⟨%W, HO⟩, Ht, Ht'⟩ Hk
  ihave ⟨#Hi, #Hre⟩ := (records_at m ρ K c (sendK j)) $$ Hr
  ihave ⟨#Hi', #Hre'⟩ := (records_at m ρ K d t) $$ Hr
  unfold lFree
  icases Hl with ⟨%f, Hl⟩
  have hset : ((mL.slice (slab 4 1024 1024 c.val lb (sentN j.val) c.isLt hb) (fun _ => rfl)).view.reshape ⟨2, ![sentN j.val, 1024]⟩ sq.numel_eq).set = (slab 4 1024 1024 c.val lb (sentN j.val) c.isLt hb).set := by
    rw [View.set_reshape]; exact View.set_slice_whole _ _
  have hset' : (mB.slice (rows 4096 1024 (sentLo c j.val) (sentN j.val) h) (fun _ => rfl)).view.set = (rows 4096 1024 (sentLo c j.val) (sentN j.val) h).set := View.set_slice_whole _ _
  have hp1 : (((c : Thread nD τ).loc cc0_scratch0) ↦[(mB.slice (rows 4096 1024 (sentLo c j.val) (sentN j.val) h) (fun _ => rfl)).view.set]{fullShare} xcast m ρ c : sProp 𝕄)
      ⊢ (exch m ρ).payload ((c : Thread nD τ), .dma sS) 0 0 := by
    rw [hs, hset', show (exch m ρ).payload ((c : Thread nD τ), csem (sendK j)) 0 0 = xRegion m ρ c (sentLo c j.val) (sentN j.val) h from
      (exch_payload m ρ c (sendK j) 0 0).trans (payload_sent m ρ c j)]
    exact BI.Entails.refl _
  have hp2 : (((d : Thread nD τ).loc cc0_scratch1) ↦[((mL.slice (slab 4 1024 1024 c.val lb (sentN j.val) c.isLt hb) (fun _ => rfl)).view.reshape ⟨2, ![sentN j.val, 1024]⟩ sq.numel_eq).set]{fullShare}
        ((mL.slice (slab 4 1024 1024 c.val lb (sentN j.val) c.isLt hb) (fun _ => rfl)).view.reshape ⟨2, ![sentN j.val, 1024]⟩ sq.numel_eq).write (Elt F) f
          ((mB.slice (rows 4096 1024 (sentLo c j.val) (sentN j.val) h) (fun _ => rfl)).view.read (Elt F) (xcast m ρ c)) Finset.univ : sProp 𝕄)
      ⊢ (exch m ρ).payload ((d : Thread nD τ), .dma sem) 0 0 := by
    rw [hs', hset, show (exch m ρ).payload ((d : Thread nD τ), csem t) 0 0 = lRegion m ρ d c lb (sentN j.val) hb from (exch_payload m ρ d t 0 0).trans hP]
    unfold lRegion
    exact ent_of_eq (pointsTo_congr (landed_write m ρ h hb hlo sq.numel_eq f _ fun _ => rfl))
  unfold xRegion
  rw [← hset, ← hset']
  iapply (Rounds.wp_send_pointsTo 𝒱₀ ER (exch m ρ) (c : Thread nD τ) none (c' := (d : Thread nD τ)) (κ₁ := K (c, sendK j)) (κ₂ := K (d, t))
    (src := mB.slice (rows 4096 1024 (sentLo c j.val) (sentN j.val) h) hu)
    (dst := (mL.slice (slab 4 1024 1024 c.val lb (sentN j.val) c.isLt hb) hu').squeeze ⟨2, ![sentN j.val, 1024]⟩ sq) (sS := .dma sS) (sem := .dma sem)
    (r₁ := 0) (r₂ := 0) (d₁ := 0) (d₂ := 0) (fs := xcast m ρ c) (fd := f)
    (by rw [hs, exch_duties, duties_sent]; exact Finset.mem_singleton_self _)
    (by rw [hs', exch_duties, ht]; exact Finset.mem_singleton_self _)
    () () (NR (sentN j.val)) rfl (by rw [hs]; exact (exch_amount m ρ c (sendK j) 0 0).trans hA) (by rw [hs']; exact (exch_amount m ρ d t 0 0).trans hA')
    O (by rw [hs']) (W := W) hp1 hp2) $$ [Hx Hl HO Ht Ht']
  · rw [hs, hs']
    isplitr; · iexact Hi
    isplitr; · iexact Hi'
    isplitl [Hx]; · iexact Hx
    isplitl [Hl]; · iexact Hl
    isplitl [HO]; · iexact HO
    isplitl [Ht]; · iexact Ht
    isplitr; · iexact Hre
    isplitl [Ht']; · iexact Ht'
    iexact Hre'
  rw [hs]
  iintro ⟨Hc, HO⟩
  iapply Hk
  isplitl [Hc]; · iexact Hc
  iexists W
  iexact HO

/-! ## The copies of `w` -/

theorem slot_le : 0 + 1024 ≤ 1024 := by decide

/-- Copying the rows of device `s` fills a slot with them. -/
theorem wrows_write {c s : Dev nD} (u : Fin 2) (sq : (⟨2, ![1024, 2048]⟩ : Shape).numel = (⟨3, ![1, 1024, 2048]⟩ : Shape).numel)
    (f : S2x1024x2048.Idx → Elt F .f32) (w : (⟨2, ![1024, 2048]⟩ : Shape).Idx → Elt F .f32)
    (hw : ∀ j, w j = win m ρ c ((rows 4096 2048 (1024 * s.val) 1024 (block_le' s)).emb j)) :
    ∀ i ∈ (slab 2 1024 2048 u.val 0 1024 u.isLt slot_le).set,
      (((mG.slice (slab 2 1024 2048 u.val 0 1024 u.isLt slot_le) (fun _ => rfl)).view.reshape ⟨2, ![1024, 2048]⟩ sq).write (Elt F) f w Finset.univ) i = wrows m ρ c s i := by
  intro i hi
  rw [← Rect.map_emb_univ, Finset.mem_map] at hi
  obtain ⟨j', -, rfl⟩ := hi
  obtain ⟨j, rfl⟩ := (Shape.reshapeEquiv sq).surjective j'
  refine (View.write_emb_of_mem (v := (mG.slice (slab 2 1024 2048 u.val 0 1024 u.isLt slot_le) (fun _ => rfl)).view.reshape ⟨2, ![1024, 2048]⟩ sq) f w (Finset.mem_univ j)).trans ?_
  refine (hw j).trans ?_
  rw [slab_emb_drop, rows_emb]
  unfold wrows
  refine congrArg (win m ρ c) (ext2 ?_ rfl)
  show 1024 * s.val + (j 0).val = 1024 * s.val + (0 + (j 0).val)
  rw [Nat.zero_add]

theorem duties_copy (c : Dev nD) (u : Fin 2) (r : ℕ) (hr : r < 2) : dutiesN c (copyK u).val r = {0} := by
  revert u; intro u; match u with | 0 => exact if_pos hr | 1 => exact if_pos hr

theorem amount_copy (u : Fin 2) : amountN (copyK u).val = NW := by
  unfold amountN; dsimp only; split_ifs <;> first | omega | rfl

theorem payload_copy (c : Dev nD) (u : Fin 2) (r : ℕ) : payloadN m ρ c (copyK u).val r 0 = iprop(gRegion m ρ c u (copied c u.val r) ∗ wRegion m ρ c (copied c u.val r)) := by
  match u with | 0 => rfl | 1 => rfl

/-- Round `r`'s copy into slot `u` brings the rows it is to bring. -/
theorem copy_rows {c : Dev nD} (u : Fin 2) (r : ℕ) (hr : r < 2) (s : Dev nD) (hcs : copied c u.val r = s)
    {off : Fin 2 → ℕ} (hoff : off = ![1024 * s.val, 0]) {inb : ∀ a, off a + (![1024, 2048] : Fin 2 → ℕ) a ≤ S4096x2048.size a}
    {off' : Fin 3 → ℕ} (hoff' : off' = ![u.val, 0, 0]) {inb' : ∀ a, off' a + (![1, 1024, 2048] : Fin 3 → ℕ) a ≤ S2x1024x2048.size a}
    {sq : (⟨3, ![1, 1024, 2048]⟩ : Shape).Squeezes ⟨2, ![1024, 2048]⟩}
    {sem : DmaSem sig} (hs : SemLoc.dma sem = csem (copyK u)) {hu hu' hsrc hdst hsem}
    {α : Type} {k : PUnit → Prog (TpuEff nD τ sig (Elt F) Λ₀ .tc) α} {Q : α → sProp 𝕄} :
    iprop(records m ρ K ∗ wRegion m ρ c s ∗ gFree c u ∗ tok c (copyK u) r 0 ∗ reached ER (kcell c (copyK u)) r)
      ⊢ iprop((crd c (copyK u) NW -∗ WP c (k ⟨⟩) Q)
          -∗ WP c (.op (.enqueueDma (mW.slice (Rect.unit (s := S4096x2048) off ![1024, 2048] inb) hu)
              (.here ((mG.slice (Rect.unit (s := S2x1024x2048) off' ![1, 1024, 2048] inb') hu').squeeze ⟨2, ![1024, 2048]⟩ sq))
              (.dma sem) hsrc hdst hsem) k) Q) := by
  subst hoff hoff' hcs
  iintro ⟨#Hr, Hw, Hg, Ht, Hre⟩ Hk
  ihave ⟨#Hi, -⟩ := (records_at m ρ K c (copyK u)) $$ Hr
  unfold gFree
  icases Hg with ⟨%f, Hg⟩
  have hset : ((mG.slice (slab 2 1024 2048 u.val 0 1024 u.isLt slot_le) (fun _ => rfl)).view.reshape ⟨2, ![1024, 2048]⟩ sq.numel_eq).set = (slab 2 1024 2048 u.val 0 1024 u.isLt slot_le).set := by
    rw [View.set_reshape]; exact View.set_slice_whole _ _
  have hset' : (mW.slice (rows 4096 2048 (1024 * (copied c u.val r).val) 1024 (block_le' _)) (fun _ => rfl)).view.set = (rows 4096 2048 (1024 * (copied c u.val r).val) 1024 (block_le' _)).set := View.set_slice_whole _ _
  have hp : iprop((((c : Thread nD τ).loc cc0_scratch2) ↦[((mG.slice (slab 2 1024 2048 u.val 0 1024 u.isLt slot_le) (fun _ => rfl)).view.reshape ⟨2, ![1024, 2048]⟩ sq.numel_eq).set]{fullShare}
        ((mG.slice (slab 2 1024 2048 u.val 0 1024 u.isLt slot_le) (fun _ => rfl)).view.reshape ⟨2, ![1024, 2048]⟩ sq.numel_eq).write (Elt F) f
          ((mW.slice (rows 4096 2048 (1024 * (copied c u.val r).val) 1024 (block_le' _)) (fun _ => rfl)).view.read (Elt F) (win m ρ c)) Finset.univ : sProp 𝕄)
        ∗ (((c : Thread nD τ).loc main_arg1) ↦[(mW.slice (rows 4096 2048 (1024 * (copied c u.val r).val) 1024 (block_le' _)) (fun _ => rfl)).view.set]{fullShare} win m ρ c))
      ⊢ (exch m ρ).payload ((c : Thread nD τ), .dma sem) r 0 := by
    rw [hs, hset, hset', show (exch m ρ).payload ((c : Thread nD τ), csem (copyK u)) r 0 = _ from (exch_payload m ρ c (copyK u) r 0).trans (payload_copy m ρ c u r)]
    unfold gRegion wRegion
    exact BI.sep_mono (ent_of_eq (pointsTo_congr (wrows_write m ρ u sq.numel_eq f _ fun _ => rfl))) (BI.Entails.refl _)
  unfold wRegion
  rw [← hset, ← hset']
  iapply (Rounds.wp_copy_pointsTo 𝒱₀ ER (exch m ρ) (c : Thread nD τ) none (κ := K (c, copyK u))
    (src := mW.slice (rows 4096 2048 (1024 * (copied c u.val r).val) 1024 (block_le' _)) hu)
    (dst := (mG.slice (slab 2 1024 2048 u.val 0 1024 u.isLt slot_le) hu').squeeze ⟨2, ![1024, 2048]⟩ sq) (sem := .dma sem)
    (r := r) (d := 0) (fs := win m ρ c) (fd := f)
    (by rw [hs, exch_duties, duties_copy c u r hr]; exact Finset.mem_singleton_self _)
    () NW rfl (by rw [hs]; exact (exch_amount m ρ c (copyK u) r 0).trans (amount_copy u)) hp) $$ [Hw Hg Ht Hre]
  · rw [hs]
    isplitr; · iexact Hi
    isplitl [Hw]; · iexact Hw
    isplitl [Hg]; · iexact Hg
    isplitl [Ht] <;> iassumption
  rw [hs]
  iintro Hc
  iapply Hk
  iexact Hc

/-! ## Loads and stores -/

/-- A load through a rectangle reads the contents at the rectangle's places. -/
theorem load_at {c : Dev nD} {cs : CoreSpace} {s : Shape} {e : EltTy} (b : Memref sig .tc (.core cs) s e) (r : Rect s) {q : PosShare TreeShare}
    {f : Buf (Elt F) ((b.access r).loc (c : Thread nD τ))} {hl : b.view.LoadsAt r.toLoadRect} (S : Finset (Idx ((b.access r).loc (c : Thread nD τ)))) (hS : (b.access r).set ⊆ S)
    {α : Type} {k : (r.shape.Idx → Elt F e) → Prog (TpuEff nD τ sig (Elt F) Λ₀ .tc) α} {Q : α → sProp 𝕄} :
    (((b.access r).loc (c : Thread nD τ)) ↦[S]{q} f : sProp 𝕄)
      ⊢ iprop(((((b.access r).loc (c : Thread nD τ)) ↦[S]{q} f) -∗ WP c (k ((b.access r).read (Elt F) f)) Q) -∗ WP c (.op (.load b r.toLoadRect hl) k) Q) :=
  wp_load_rect 𝒱₀ (c : Thread nD τ) none Set.univ (m := b) (S := S) hS

/-- A store of a whole rectangle leaves there what it stores. -/
theorem store_at {c : Dev nD} {cs : CoreSpace} {s : Shape} {e : EltTy} (b : Memref sig .tc (.core cs) s e) (r : Rect s)
    (f g : Buf (Elt F) ((b.access r).loc (c : Thread nD τ))) (w : r.shape.Idx → Elt F e) (hg : ∀ j, (b.access r).read (Elt F) g j = w j)
    {hx : (b.access r).Stores Finset.univ} {hm : (Finset.univ : Finset r.shape.Idx) = Finset.univ ∨ ∀ a, r.stride a = 1}
    {α : Type} {k : PUnit → Prog (TpuEff nD τ sig (Elt F) Λ₀ .tc) α} {Q : α → sProp 𝕄} :
    (((b.access r).loc (c : Thread nD τ)) ↦[(b.access r).set]{fullShare} f : sProp 𝕄)
      ⊢ iprop(((((b.access r).loc (c : Thread nD τ)) ↦[(b.access r).set]{fullShare} g) -∗ WP c (k ⟨⟩) Q) -∗ WP c (.op (.store b r w Finset.univ hx hm) k) Q) := by
  have h : (((b.access r).loc (c : Thread nD τ)) ↦[(b.access r).set]{fullShare} g : sProp 𝕄)
      = (((b.access r).loc (c : Thread nD τ)) ↦[(b.access r).set]{fullShare} ((b.access r).write (Elt F) f w Finset.univ)) := by
    refine pointsTo_congr fun i hi => ?_
    obtain ⟨j, -, rfl⟩ := Finset.mem_map.mp hi
    refine Eq.trans ?_ (View.write_emb_of_mem (v := b.access r) f w (Finset.mem_univ j)).symm
    rw [← hg j]; unfold View.read
    rw [cast_cast, cast_eq]
  rw [h]
  exact wp_store 𝒱₀ (c : Thread nD τ) none Set.univ (m := b) (r := r) (hx := hx) (hm := hm) subset_rfl

/-- A rectangle of a whole buffer covers the rectangle's places. -/
theorem access_set (b : Ref sig .tc) (r : Rect b.ty.shape) : ((Memref.whole b : Memref sig .tc _ _ _).access r).set = r.set := View.set_slice_whole _ _

/-- The rows of `x` of device `s`, in device `c`'s block. -/
def xblk (c s : Dev nD) : S1024x1024.Idx → Elt F .f32 := fun j => xin m ρ c (at2 (1024 * s.val + (j 0).val) (j 1).val (block_lt (lt0 j)) (lt1 j))
/-- The rows of `w` of device `s`, as a slot. -/
def wblk (c s : Dev nD) : S1x1024x2048.Idx → Elt F .f32 := fun j => win m ρ c (at2 (1024 * s.val + (j 1).val) (j 2).val (block_lt (lt1' j)) (lt2' j))
/-- The cast rows device `s` sent `d`, as a slot, -/
def lblk (d s : Dev nD) : S1x1024x1024.Idx → Elt F .bf16 := fun j => xcast m ρ s (at2 (1024 * d.val + (j 1).val) (j 2).val (block_lt (lt1' j)) (lt2' j))
/-- and its slice `q`. -/
def lslc (d s : Dev nD) (q : Fin 8) : S1x128x1024.Idx → Elt F .bf16 := fun j =>
  xcast m ρ s (at2 (1024 * d.val + (128 * q.val + (j 1).val)) (j 2).val (block_lt (by have := slice_le q; have := lt1' j; omega)) (lt2' j))

/-- The staging buffer of `x`. -/
def xStage (c : Dev nD) : sProp 𝕄 := ((c : Thread nD τ).loc cc0_stg0_0) ↦{fullShare} xin m ρ c

theorem load_x {c : Dev nD} (s : Dev nD) {off : Fin 2 → ℕ} (hoff : off = ![1024 * s.val, 0]) {inb : ∀ a, off a + S1024x1024.size a ≤ S4096x1024.size a} {hl}
    {α : Type} {k : (S1024x1024.Idx → Elt F .f32) → Prog (TpuEff nD τ sig (Elt F) Λ₀ .tc) α} {Q : α → sProp 𝕄} :
    xStage m ρ c ⊢ iprop((xStage m ρ c -∗ WP c (k (xblk m ρ c s)) Q)
      -∗ WP c (.op (.load mX (Rect.unit (s := S4096x1024) off S1024x1024.size inb).toLoadRect hl) k) Q) := by
  subst hoff
  have e : xblk m ρ c s = fun j => xin m ρ c ((rows 4096 1024 (1024 * s.val) 1024 (block_le' s)).emb j) := funext fun j => by rw [rows_emb]; rfl
  rw [e]
  exact load_at mX (rows 4096 1024 (1024 * s.val) 1024 (block_le' s)) Finset.univ (Finset.subset_univ _)

/-- The rows of the cast block at any contents. -/
def xFree (c s : Dev nD) : sProp 𝕄 :=
  iprop(∃ f : Buf (Elt F) ((c : Thread nD τ).loc cc0_scratch0), ((c : Thread nD τ).loc cc0_scratch0) ↦[(rows 4096 1024 (1024 * s.val) 1024 (block_le' s)).set]{fullShare} f)

theorem load_old {c : Dev nD} (s : Dev nD) {off : Fin 2 → ℕ} (hoff : off = ![1024 * s.val, 0]) {inb : ∀ a, off a + S1024x1024.size a ≤ S4096x1024.size a} {hl}
    {α : Type} {k : (S1024x1024.Idx → Elt F .bf16) → Prog (TpuEff nD τ sig (Elt F) Λ₀ .tc) α} {Q : α → sProp 𝕄} :
    xFree c s ⊢ iprop((∀ v, xFree c s -∗ WP c (k v) Q)
      -∗ WP c (.op (.load mB (Rect.unit (s := S4096x1024) off S1024x1024.size inb).toLoadRect hl) k) Q) := by
  subst hoff
  unfold xFree
  iintro ⟨%f, Hx⟩ Hk
  iapply (load_at mB (rows 4096 1024 (1024 * s.val) 1024 (block_le' s)) _ (subset_of_eq (access_set cc0_scratch0 _))) $$ Hx
  iintro Hx
  iapply Hk
  iexists f
  iexact Hx

theorem store_cast {c : Dev nD} (s : Dev nD) {off : Fin 2 → ℕ} (hoff : off = ![1024 * s.val, 0]) {inb : ∀ a, off a + S1024x1024.size a ≤ S4096x1024.size a}
    {w : S1024x1024.Idx → Elt F .bf16} (hw : ∀ j, w j = FloatOps.truncf .bf16 bitsLt_bf16_f32 (xblk m ρ c s j)) {hx hm}
    {α : Type} {k : PUnit → Prog (TpuEff nD τ sig (Elt F) Λ₀ .tc) α} {Q : α → sProp 𝕄} :
    xFree c s ⊢ iprop((xRegion m ρ c (1024 * s.val) 1024 (block_le' s) -∗ WP c (k ⟨⟩) Q)
      -∗ WP c (.op (.store mB (Rect.unit (s := S4096x1024) off S1024x1024.size inb) w Finset.univ hx hm) k) Q) := by
  subst hoff
  unfold xFree xRegion
  iintro ⟨%f, Hx⟩ Hk
  have e := access_set cc0_scratch0 (rows 4096 1024 (1024 * s.val) 1024 (block_le' s))
  rw [← e]
  iapply (store_at mB (rows 4096 1024 (1024 * s.val) 1024 (block_le' s)) f (xcast m ρ c) w
    (fun j => (congrArg (xcast m ρ c) (rows_emb j)).trans (hw j).symm)) $$ Hx
  iintro Hx
  iapply Hk
  iexact Hx

theorem load_slot {c : Dev nD} (u : Fin 2) (s : Dev nD) {off : Fin 3 → ℕ} (hoff : off = ![u.val, 0, 0]) {inb : ∀ a, off a + S1x1024x2048.size a ≤ S2x1024x2048.size a} {hl}
    {α : Type} {k : (S1x1024x2048.Idx → Elt F .f32) → Prog (TpuEff nD τ sig (Elt F) Λ₀ .tc) α} {Q : α → sProp 𝕄} :
    gRegion m ρ c u s ⊢ iprop((gRegion m ρ c u s -∗ WP c (k (wblk m ρ c s)) Q)
      -∗ WP c (.op (.load mG (Rect.unit (s := S2x1024x2048) off S1x1024x2048.size inb).toLoadRect hl) k) Q) := by
  subst hoff
  have e : wblk m ρ c s = fun j => wrows m ρ c s ((slab 2 1024 2048 u.val 0 1024 u.isLt slot_le).emb j) := funext fun j => by
    rw [slab_emb]; unfold wrows wblk
    refine congrArg (win m ρ c) (ext2 ?_ rfl)
    show 1024 * s.val + (j 1).val = 1024 * s.val + (0 + (j 1).val)
    rw [Nat.zero_add]
  rw [e]
  unfold gRegion
  exact load_at mG (slab 2 1024 2048 u.val 0 1024 u.isLt slot_le) _ (subset_of_eq (access_set cc0_scratch2 _))

theorem load_landed {c : Dev nD} (s : Dev nD) {off : Fin 3 → ℕ} (hoff : off = ![s.val, 0, 0]) {inb : ∀ a, off a + S1x1024x1024.size a ≤ S4x1024x1024.size a} {hl}
    {α : Type} {k : (S1x1024x1024.Idx → Elt F .bf16) → Prog (TpuEff nD τ sig (Elt F) Λ₀ .tc) α} {Q : α → sProp 𝕄} :
    lRegion m ρ c s 0 1024 slot_le ⊢ iprop((lRegion m ρ c s 0 1024 slot_le -∗ WP c (k (lblk m ρ c s)) Q)
      -∗ WP c (.op (.load mL (Rect.unit (s := S4x1024x1024) off S1x1024x1024.size inb).toLoadRect hl) k) Q) := by
  subst hoff
  have e : lblk m ρ c s = fun j => landed m ρ c ((slab 4 1024 1024 s.val 0 1024 s.isLt slot_le).emb j) := funext fun j => by
    rw [slab_emb]; unfold landed lblk
    refine congrArg (xcast m ρ s) (ext2 ?_ rfl)
    show 1024 * c.val + (j 1).val = 1024 * c.val + (0 + (j 1).val)
    rw [Nat.zero_add]
  rw [e]
  unfold lRegion
  exact load_at mL (slab 4 1024 1024 s.val 0 1024 s.isLt slot_le) _ (subset_of_eq (access_set cc0_scratch1 _))

theorem load_slice {c : Dev nD} (s : Dev nD) (q : Fin 8) {off : Fin 3 → ℕ} (hoff : off = ![s.val, 128 * q.val, 0]) {inb : ∀ a, off a + S1x128x1024.size a ≤ S4x1024x1024.size a} {hl}
    {α : Type} {k : (S1x128x1024.Idx → Elt F .bf16) → Prog (TpuEff nD τ sig (Elt F) Λ₀ .tc) α} {Q : α → sProp 𝕄} :
    lRegion m ρ c s (128 * q.val) 128 (slice_le q) ⊢ iprop((lRegion m ρ c s (128 * q.val) 128 (slice_le q) -∗ WP c (k (lslc m ρ c s q)) Q)
      -∗ WP c (.op (.load mL (Rect.unit (s := S4x1024x1024) off S1x128x1024.size inb).toLoadRect hl) k) Q) := by
  subst hoff
  have e : lslc m ρ c s q = fun j => landed m ρ c ((slab 4 1024 1024 s.val (128 * q.val) 128 s.isLt (slice_le q)).emb j) := funext fun j => by
    rw [slab_emb]; rfl
  rw [e]
  unfold lRegion
  exact load_at mL (slab 4 1024 1024 s.val (128 * q.val) 128 s.isLt (slice_le q)) _ (subset_of_eq (access_set cc0_scratch1 _))

/-! ### The result -/

/-- The whole result buffer, and its `q`-th slice of rows, at contents `f`. -/
def oAll (c : Dev nD) (f : S1024x2048.Idx → Elt F .f32) : sProp 𝕄 := ((c : Thread nD τ).loc cc0_stg1_0) ↦{fullShare} f
def oSlc (c : Dev nD) (q : Fin 8) (f : S1024x2048.Idx → Elt F .f32) : sProp 𝕄 :=
  ((c : Thread nD τ).loc cc0_stg1_0) ↦[(rows 1024 2048 (128 * q.val) 128 (slice_le q)).set]{fullShare} f

/-- Slice `q` of the rows of an array of the result's shape. -/
def oblk (f : S1024x2048.Idx → Elt F .f32) (q : Fin 8) : S128x2048.Idx → Elt F .f32 := fun j =>
  f (at2 (128 * q.val + (j 0).val) (j 1).val (by have := slice_le q; have := lt0 j; omega) (lt1 j))

theorem load_out {c : Dev nD} {f : S1024x2048.Idx → Elt F .f32} {inb : ∀ a, (![0, 0] : Fin 2 → ℕ) a + S1024x2048.size a ≤ S1024x2048.size a} {hl}
    {α : Type} {k : (S1024x2048.Idx → Elt F .f32) → Prog (TpuEff nD τ sig (Elt F) Λ₀ .tc) α} {Q : α → sProp 𝕄} :
    oAll c f ⊢ iprop((oAll c f -∗ WP c (k f) Q)
      -∗ WP c (.op (.load mO (Rect.unit (s := S1024x2048) ![0, 0] S1024x2048.size inb).toLoadRect hl) k) Q) := by
  have e : f = fun j => f ((rows 1024 2048 0 1024 slot_le).emb j) := funext fun j => by
    rw [rows_emb]; exact congrArg f (ext2 (Nat.zero_add _).symm rfl)
  conv_lhs => unfold oAll
  conv_rhs => rw [show k f = k (fun j => f ((rows 1024 2048 0 1024 slot_le).emb j)) from congrArg k e]
  unfold oAll
  exact load_at mO (rows 1024 2048 0 1024 slot_le) Finset.univ (Finset.subset_univ _)

theorem store_out {c : Dev nD} {f w : S1024x2048.Idx → Elt F .f32} {inb : ∀ a, (![0, 0] : Fin 2 → ℕ) a + S1024x2048.size a ≤ S1024x2048.size a} {hx hm}
    {α : Type} {k : PUnit → Prog (TpuEff nD τ sig (Elt F) Λ₀ .tc) α} {Q : α → sProp 𝕄} :
    oAll c f ⊢ iprop((oAll c w -∗ WP c (k ⟨⟩) Q)
      -∗ WP c (.op (.store mO (Rect.unit (s := S1024x2048) ![0, 0] S1024x2048.size inb) w Finset.univ hx hm) k) Q) := by
  have h := store_at (c := c) (k := k) (Q := Q) (hx := hx) (hm := hm) mO (rows 1024 2048 0 1024 slot_le) f w w (fun j =>
    congrArg w ((rows_emb j).trans (ext2 (Nat.zero_add _) rfl)))
  rw [show (mO.access (rows 1024 2048 0 1024 slot_le)).set = Finset.univ from (access_set cc0_stg1_0 _).trans (rows_univ slot_le)] at h
  exact h

theorem load_oslc {c : Dev nD} (q : Fin 8) {f : S1024x2048.Idx → Elt F .f32} {off : Fin 2 → ℕ} (hoff : off = ![128 * q.val, 0]) {inb : ∀ a, off a + S128x2048.size a ≤ S1024x2048.size a} {hl}
    {α : Type} {k : (S128x2048.Idx → Elt F .f32) → Prog (TpuEff nD τ sig (Elt F) Λ₀ .tc) α} {Q : α → sProp 𝕄} :
    oSlc c q f ⊢ iprop((oSlc c q f -∗ WP c (k (oblk f q)) Q)
      -∗ WP c (.op (.load mO (Rect.unit (s := S1024x2048) off S128x2048.size inb).toLoadRect hl) k) Q) := by
  subst hoff
  have e : oblk f q = fun j => f ((rows 1024 2048 (128 * q.val) 128 (slice_le q)).emb j) := funext fun j => by rw [rows_emb]; rfl
  rw [e]
  unfold oSlc
  exact load_at mO (rows 1024 2048 (128 * q.val) 128 (slice_le q)) _ (subset_of_eq (access_set cc0_stg1_0 _))

theorem store_oslc {c : Dev nD} (q : Fin 8) {f : S1024x2048.Idx → Elt F .f32} (g : S1024x2048.Idx → Elt F .f32) {w : S128x2048.Idx → Elt F .f32} (hw : oblk g q = w)
    {off : Fin 2 → ℕ} (hoff : off = ![128 * q.val, 0]) {inb : ∀ a, off a + S128x2048.size a ≤ S1024x2048.size a} {hx hm}
    {α : Type} {k : PUnit → Prog (TpuEff nD τ sig (Elt F) Λ₀ .tc) α} {Q : α → sProp 𝕄} :
    oSlc c q f ⊢ iprop((oSlc c q g -∗ WP c (k ⟨⟩) Q)
      -∗ WP c (.op (.store mO (Rect.unit (s := S1024x2048) off S128x2048.size inb) w Finset.univ hx hm) k) Q) := by
  subst hoff hw
  unfold oSlc
  rw [← access_set cc0_stg1_0 (rows 1024 2048 (128 * q.val) 128 (slice_le q))]
  exact store_at mO (rows 1024 2048 (128 * q.val) 128 (slice_le q)) f g _ (fun j => congrArg g (rows_emb j))

end Cert.KernelIdeal.Mesh

end
-- ==== Proof.KernelIdeal.Buffers.lean ====
/-
# Each buffer as the pieces it is handed about in
-/
module

public import proofs.«01_k».proof.Proof.KernelIdeal.Steps

@[expose] public section

noncomputable section

namespace Cert.KernelIdeal.Mesh

open Cert.KernelIdeal Cert.KernelIdeal.Gen Cert.Blocks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## Sums over the devices and over the slices -/

theorem sep_eight (Φ : Fin 8 → sProp 𝕄) : bigSep Finset.univ Φ = iprop(Φ 0 ∗ Φ 1 ∗ Φ 2 ∗ Φ 3 ∗ Φ 4 ∗ Φ 5 ∗ Φ 6 ∗ Φ 7) :=
  (bigSep_eq_bigSepL_of_eq (S := (Finset.univ : Finset (Fin 8))) [0, 1, 2, 3, 4, 5, 6, 7] (by decide) (by decide) Φ).trans rfl

theorem sep_two (Φ : Fin 2 → sProp 𝕄) : bigSep Finset.univ Φ = iprop(Φ 0 ∗ Φ 1) :=
  (bigSep_eq_bigSepL_of_eq (S := (Finset.univ : Finset (Fin 2))) [0, 1] (by decide) (by decide) Φ).trans rfl

/-- One device and the three others, as it sees them. -/
theorem sep_four (c : Dev nD) (Φ : Dev nD → sProp 𝕄) : bigSep Finset.univ Φ = iprop(Φ c ∗ Φ (right c) ∗ Φ (left c) ∗ Φ (diag c)) :=
  (bigSep_eq_bigSepL_of_eq (S := (Finset.univ : Finset (Dev nD))) [c, right c, left c, diag c]
    (by symm; rw [Finset.eq_univ_iff_forall]; intro d; rw [List.mem_toFinset]; exact four_all c d) (four_nodup c) Φ).trans rfl

/-! ## Cutting a buffer, and putting it together -/

/-- A cut region at contents nothing is said of is its pieces at such contents, -/
theorem any_cut {ℓ : Loc nD τ sig} {T : Type} [Fintype T] [DecidableEq T] {S : Finset (Idx ℓ)} (P : T → Finset (Idx ℓ)) (hS : S = Finset.univ.biUnion P)
    (hP : ∀ t t', t ≠ t' → Disjoint (P t) (P t')) :
    (iprop(∃ f : Buf (Elt F) ℓ, ℓ ↦[S]{fullShare} f) : sProp 𝕄) ⊢ bigSep Finset.univ fun t => iprop(∃ f : Buf (Elt F) ℓ, ℓ ↦[P t]{fullShare} f) := by
  subst hS
  iintro ⟨%f, H⟩
  have e : (ℓ ↦[Finset.univ.biUnion P]{fullShare} f : sProp 𝕄) ⊢ bigSep Finset.univ fun t => iprop(∃ f : Buf (Elt F) ℓ, ℓ ↦[P t]{fullShare} f) := by
    rw [pointsTo_biUnion Finset.univ P (fun t _ t' _ h => hP t t' h)]
    have h : ∀ t, (ℓ ↦[P t]{fullShare} f : sProp 𝕄) ⊢ iprop(∃ f : Buf (Elt F) ℓ, ℓ ↦[P t]{fullShare} f) := fun t => by
      iintro H; iexists f; iexact H
    exact bigSep_mono fun t _ => h t
  iapply e; iexact H

/-- and they make it up again. -/
theorem any_join {ℓ : Loc nD τ sig} {T : Type} [Fintype T] [DecidableEq T] {S : Finset (Idx ℓ)} (P : T → Finset (Idx ℓ)) (hS : S = Finset.univ.biUnion P)
    (hP : ∀ t t', t ≠ t' → Disjoint (P t) (P t')) (f₀ : Buf (Elt F) ℓ) :
    (bigSep Finset.univ fun t => iprop(∃ f : Buf (Elt F) ℓ, ℓ ↦[P t]{fullShare} f)) ⊢ (iprop(∃ f : Buf (Elt F) ℓ, ℓ ↦[S]{fullShare} f) : sProp 𝕄) := by
  subst hS
  haveI : Nonempty (Buf (Elt F) ℓ) := ⟨f₀⟩
  refine (bigSep_exists_pi Finset.univ _).trans ?_
  iintro ⟨%fs, H⟩
  ihave H := (pointsTo_biUnion_join Finset.univ P fs f₀ (fun t _ t' _ h => hP t t' h)) $$ H
  icases H with ⟨%g, -, H⟩
  iexists g; iexact H

omit [FloatOps F] in
/-- A region at one array is its pieces at that array. -/
theorem one_cut {ℓ : Loc nD τ sig} {T : Type} [Fintype T] [DecidableEq T] {S : Finset (Idx ℓ)} (P : T → Finset (Idx ℓ)) (hS : S = Finset.univ.biUnion P)
    (hP : ∀ t t', t ≠ t' → Disjoint (P t) (P t')) (f : Buf (Elt F) ℓ) :
    (ℓ ↦[S]{fullShare} f : sProp 𝕄) = bigSep Finset.univ fun t => ℓ ↦[P t]{fullShare} f := by
  subst hS; exact pointsTo_biUnion Finset.univ P (fun t _ t' _ h => hP t t' h)

/-! ## The blocks of each buffer -/

theorem four_rows (B : ℕ) : (Finset.univ : Finset (⟨2, ![4096, B]⟩ : Shape).Idx) = Finset.univ.biUnion fun s : Dev nD => (rows 4096 B (1024 * s.val) 1024 (block_le' s)).set := by
  rw [← rows_univ (A := 4096) (B := B) (by decide), rows_cut (A := 4096) (n := 1024) (k := 4) (by decide) (by decide) (fun s => by rw [Nat.zero_add]; exact block_le' s)]
  refine Finset.biUnion_congr rfl fun s _ => ?_
  ext i; rw [mem_rows, mem_rows, Nat.zero_add]

theorem four_rows_apart {B : ℕ} (s t : Dev nD) (h : s ≠ t) :
    Disjoint (rows 4096 B (1024 * s.val) 1024 (block_le' s)).set (rows 4096 B (1024 * t.val) 1024 (block_le' t)).set :=
  rows_disjoint (step_le fun e => h (Fin.ext e))

theorem eight_rows (d : Dev nD) : (rows 4096 1024 (1024 * d.val) 1024 (block_le' d)).set
    = Finset.univ.biUnion fun q : Fin 8 => (rows 4096 1024 (1024 * d.val + 128 * q.val) 128 (by have := block_le' d; have := slice_le q; omega)).set :=
  rows_cut (A := 4096) (B := 1024) (lo := 1024 * d.val) (n := 128) (k := 8) (by decide) (block_le' d) _

theorem eight_rows_apart {d : Dev nD} (q r : Fin 8) (h : q ≠ r) :
    Disjoint (rows 4096 1024 (1024 * d.val + 128 * q.val) 128 (by have := block_le' d; have := slice_le q; omega)).set
      (rows 4096 1024 (1024 * d.val + 128 * r.val) 128 (by have := block_le' d; have := slice_le r; omega)).set :=
  rows_disjoint (by have := step_le (n := 128) (t := q.val) (t' := r.val) (fun e => h (Fin.ext e)); omega)

theorem eight_slab (s : Dev nD) : (slab 4 1024 1024 s.val 0 1024 s.isLt slot_le).set
    = Finset.univ.biUnion fun q : Fin 8 => (slab 4 1024 1024 s.val (128 * q.val) 128 s.isLt (slice_le q)).set := by
  rw [slab_cut (S := 4) (A := 1024) (B := 1024) (lo := 0) (n := 128) (k := 8) (hs := s.isLt) (by decide) (by decide) (fun q => by rw [Nat.zero_add]; exact slice_le q)]
  refine Finset.biUnion_congr rfl fun q _ => ?_
  ext i; rw [mem_slab, mem_slab, Nat.zero_add]

theorem eight_slab_apart {s : Dev nD} (q r : Fin 8) (h : q ≠ r) :
    Disjoint (slab 4 1024 1024 s.val (128 * q.val) 128 s.isLt (slice_le q)).set (slab 4 1024 1024 s.val (128 * r.val) 128 s.isLt (slice_le r)).set :=
  slab_disjoint (Or.inr (step_le fun e => h (Fin.ext e)))

theorem out_rows : (Finset.univ : Finset S1024x2048.Idx) = Finset.univ.biUnion fun q : Fin 8 => (rows 1024 2048 (128 * q.val) 128 (slice_le q)).set := by
  show (Finset.univ : Finset (⟨2, ![1024, 2048]⟩ : Shape).Idx) = _
  rw [← rows_univ (A := 1024) (B := 2048) (by decide), rows_cut (A := 1024) (n := 128) (k := 8) (by decide) (by decide) (fun q => by rw [Nat.zero_add]; exact slice_le q)]
  refine Finset.biUnion_congr rfl fun q _ => ?_
  ext i; rw [mem_rows, mem_rows, Nat.zero_add]

theorem slice_le' (c : Dev nD) (q : Fin 8) : 1024 * (diag c).val + 128 * q.val + 128 ≤ 4096 := by
  have := block_le' (diag c); have := slice_le q; omega

/-! ## The cast block -/

/-- The whole buffer of the cast block is its four blocks of rows. -/
theorem xFree_four (c : Dev nD) : (iprop(∃ f : Buf (Elt F) ((c : Thread nD τ).loc cc0_scratch0), ((c : Thread nD τ).loc cc0_scratch0) ↦{fullShare} f) : sProp 𝕄)
    ⊢ iprop(xFree c c ∗ xFree c (right c) ∗ xFree c (left c) ∗ xFree c (diag c)) :=
  (any_cut (ℓ := (c : Thread nD τ).loc cc0_scratch0) (fun s : Dev nD => (rows 4096 1024 (1024 * s.val) 1024 (block_le' s)).set) (four_rows 1024) four_rows_apart).trans
    (ent_of_eq (sep_four c fun s => xFree c s))

/-- The rows across, cut into the eight slices that are sent. -/
theorem xRegion_cut (c : Dev nD) : xRegion m ρ c (1024 * (diag c).val) 1024 (block_le' _)
    = bigSep Finset.univ fun q : Fin 8 => xRegion m ρ c (1024 * (diag c).val + 128 * q.val) 128 (slice_le' c q) := by
  unfold xRegion
  exact one_cut _ (eight_rows (diag c)) eight_rows_apart _

theorem xRegion_free (c s : Dev nD) : xRegion m ρ c (1024 * s.val) 1024 (block_le' s) ⊢ xFree c s := by
  unfold xRegion xFree
  iintro H; iexists _; iexact H

/-- What is left of the cast block, put together. -/
theorem x_whole (c : Dev nD) :
    iprop(xFree c c ∗ xRegion m ρ c (1024 * (right c).val) 1024 (block_le' _) ∗ xRegion m ρ c (1024 * (left c).val) 1024 (block_le' _)
        ∗ bigSep Finset.univ fun q : Fin 8 => xRegion m ρ c (1024 * (diag c).val + 128 * q.val) 128 (slice_le' c q))
      ⊢ (iprop(∃ f : Buf (Elt F) ((c : Thread nD τ).loc cc0_scratch0), ((c : Thread nD τ).loc cc0_scratch0) ↦{fullShare} f) : sProp 𝕄) := by
  rw [← xRegion_cut]
  refine (BI.sep_mono (BI.Entails.refl _) (BI.sep_mono (xRegion_free m ρ c _) (BI.sep_mono (xRegion_free m ρ c _) (xRegion_free m ρ c _)))).trans ?_
  refine (ent_of_eq (sep_four c fun s => xFree c s).symm).trans ?_
  exact any_join (ℓ := (c : Thread nD τ).loc cc0_scratch0) (fun s : Dev nD => (rows 4096 1024 (1024 * s.val) 1024 (block_le' s)).set) (four_rows 1024) four_rows_apart (xcast m ρ c)

/-! ## The landing buffer -/

theorem lFree_four (c : Dev nD) : (iprop(∃ f : Buf (Elt F) ((c : Thread nD τ).loc cc0_scratch1), ((c : Thread nD τ).loc cc0_scratch1) ↦{fullShare} f) : sProp 𝕄)
    ⊢ iprop(lFree c c 0 1024 slot_le ∗ lFree c (right c) 0 1024 slot_le ∗ lFree c (left c) 0 1024 slot_le ∗ lFree c (diag c) 0 1024 slot_le) :=
  (any_cut (ℓ := (c : Thread nD τ).loc cc0_scratch1) (fun s : Dev nD => (slab 4 1024 1024 s.val 0 1024 s.isLt slot_le).set) (slab_univ slot_le)
    (fun s t h => slab_disjoint (Or.inl fun e => h (Fin.ext e)))).trans (ent_of_eq (sep_four c fun s => lFree c s 0 1024 slot_le))

/-- The place of a block, cut into the places of its eight slices. -/
theorem lFree_cut (d s : Dev nD) : (lFree (F := F) d s 0 1024 slot_le) ⊢ bigSep Finset.univ fun q : Fin 8 => lFree d s (128 * q.val) 128 (slice_le q) :=
  any_cut _ (eight_slab s) eight_slab_apart

theorem lRegion_free (d s : Dev nD) : lRegion m ρ d s 0 1024 slot_le ⊢ lFree d s 0 1024 slot_le := by
  unfold lRegion lFree
  iintro H; iexists _; iexact H

theorem lRegion_cut (d s : Dev nD) : lRegion m ρ d s 0 1024 slot_le = bigSep Finset.univ fun q : Fin 8 => lRegion m ρ d s (128 * q.val) 128 (slice_le q) := by
  unfold lRegion
  exact one_cut _ (eight_slab s) eight_slab_apart _

/-- What has landed, put together. -/
theorem l_whole (c : Dev nD) :
    iprop(lFree c c 0 1024 slot_le ∗ lRegion m ρ c (right c) 0 1024 slot_le ∗ lRegion m ρ c (left c) 0 1024 slot_le
        ∗ bigSep Finset.univ fun q : Fin 8 => lRegion m ρ c (diag c) (128 * q.val) 128 (slice_le q))
      ⊢ (iprop(∃ f : Buf (Elt F) ((c : Thread nD τ).loc cc0_scratch1), ((c : Thread nD τ).loc cc0_scratch1) ↦{fullShare} f) : sProp 𝕄) := by
  rw [← lRegion_cut]
  refine (BI.sep_mono (BI.Entails.refl _) (BI.sep_mono (lRegion_free m ρ c _) (BI.sep_mono (lRegion_free m ρ c _) (lRegion_free m ρ c _)))).trans ?_
  refine (ent_of_eq (sep_four c fun s => lFree c s 0 1024 slot_le).symm).trans ?_
  exact any_join (ℓ := (c : Thread nD τ).loc cc0_scratch1) (fun s : Dev nD => (slab 4 1024 1024 s.val 0 1024 s.isLt slot_le).set) (slab_univ slot_le)
    (fun s t h => slab_disjoint (Or.inl fun e => h (Fin.ext e))) (landed m ρ c)

/-! ## The staging slots and `w` -/

theorem gFree_two (c : Dev nD) : (iprop(∃ f : Buf (Elt F) ((c : Thread nD τ).loc cc0_scratch2), ((c : Thread nD τ).loc cc0_scratch2) ↦{fullShare} f) : sProp 𝕄)
    ⊢ iprop(gFree c 0 ∗ gFree c 1) :=
  (any_cut (ℓ := (c : Thread nD τ).loc cc0_scratch2) (fun u : Fin 2 => (slab 2 1024 2048 u.val 0 1024 u.isLt slot_le).set) (slab_univ slot_le)
    (fun s t h => slab_disjoint (Or.inl fun e => h (Fin.ext e)))).trans (ent_of_eq (sep_two fun u => gFree c u))

theorem gRegion_free (c : Dev nD) (u : Fin 2) (s : Dev nD) : gRegion m ρ c u s ⊢ gFree c u := by
  unfold gRegion gFree
  iintro H; iexists _; iexact H

theorem g_whole (c s t : Dev nD) : iprop(gRegion m ρ c 0 s ∗ gRegion m ρ c 1 t)
    ⊢ (iprop(∃ f : Buf (Elt F) ((c : Thread nD τ).loc cc0_scratch2), ((c : Thread nD τ).loc cc0_scratch2) ↦{fullShare} f) : sProp 𝕄) := by
  refine (BI.sep_mono (gRegion_free m ρ c 0 s) (gRegion_free m ρ c 1 t)).trans ?_
  refine (ent_of_eq (sep_two fun u => gFree c u).symm).trans ?_
  exact any_join (ℓ := (c : Thread nD τ).loc cc0_scratch2) (fun u : Fin 2 => (slab 2 1024 2048 u.val 0 1024 u.isLt slot_le).set) (slab_univ slot_le)
    (fun s t h => slab_disjoint (Or.inl fun e => h (Fin.ext e))) (wrows m ρ c s)

theorem w_four (c : Dev nD) : (((c : Thread nD τ).loc main_arg1) ↦{fullShare} win m ρ c : sProp 𝕄)
    = iprop(wRegion m ρ c c ∗ wRegion m ρ c (right c) ∗ wRegion m ρ c (left c) ∗ wRegion m ρ c (diag c)) :=
  (one_cut (ℓ := (c : Thread nD τ).loc main_arg1) (fun s : Dev nD => (rows 4096 2048 (1024 * s.val) 1024 (block_le' s)).set) (four_rows 2048) four_rows_apart _).trans
    (sep_four c fun s => wRegion m ρ c s)

/-! ## The result -/

theorem out_cut (c : Dev nD) (f : S1024x2048.Idx → Elt F .f32) : oAll c f = bigSep Finset.univ fun q : Fin 8 => oSlc c q f := by
  unfold oAll oSlc
  exact one_cut (ℓ := (c : Thread nD τ).loc cc0_stg1_0) (fun q : Fin 8 => (rows 1024 2048 (128 * q.val) 128 (slice_le q)).set) out_rows
    (fun q r h => rows_disjoint (step_le fun e => h (Fin.ext e))) _

end Cert.KernelIdeal.Mesh

end
-- ==== Proof.KernelIdeal.Opening.lean ====
/-
# The first parts of the kernel: barrier, casts, sends
-/
module

public import proofs.«01_k».proof.Proof.KernelIdeal.Buffers
public import Idealize.ShloMosaic.Lib.Pipeline.Value

@[expose] public section

noncomputable section

namespace Cert.KernelIdeal.Mesh

open Cert.KernelIdeal Cert.KernelIdeal.Gen Cert.Blocks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 26 → ℕ)
variable (hX : mX.IsWhole) (hW : mW.IsWhole) (hO : mO.IsWhole) (hB : mB.IsWhole) (hL : mL.IsWhole) (hG : mG.IsWhole)

/-- A program that is done meets what it was to reach. -/
theorem wp_done {c : Dev nD} {α : Type} {a : α} {Q : α → sProp 𝕄} : Q a ⊢ WP c (.ret a) Q := by
  unfold WP; rw [wp_ret]; iintro H; imodintro; iexact H

theorem first_part {c : Dev nD} {Q : _ → sProp 𝕄} :
    iprop(∀ a b e g, Q ⟨c, a, b, e, g⟩) ⊢ WP c (k0_part1 mX hX mW hW mO hO mB hB mL hL mG hG cc0_scratch3 cc0_scratch4 cc0_scratch5 cc0_scratch6 cc0_scratch7) Q := by
  rw [k0_part1_eq_skeleton]; unfold k0_part1_skel
  simp only [Prog.lift, Prog.bind_op, Prog.bind_ret, Prog.pure_eq_ret, wp_deviceId]
  iintro H
  iapply wp_done
  iapply H

/-- The signals to the right and across. -/
theorem second_part {c : Dev nD} {v2 : BitVec 32} {Q : _ → sProp 𝕄} :
    iprop(records m ρ K ∗ due c (O₀ c) ∗ tok (right c) barK 0 c ∗ lFree c (right c) 0 1024 slot_le ∗ tok (diag c) barK 0 c ∗ lFree c (diag c) 0 1024 slot_le)
      ⊢ iprop((∀ a b e g, due c (oweB1 c) -∗ Q ⟨SemArray.scalar (sig.barrier 0 rfl), a, b, e, g⟩)
        -∗ WP c (k0_part2 mX hX mW hW mO hO mB hB mL hL mG hG cc0_scratch3 cc0_scratch4 cc0_scratch5 cc0_scratch6 cc0_scratch7 c v2) Q) := by
  rw [k0_part2_eq_skeleton]; unfold k0_part2_skel
  simp only [semSignalWord, semWaitWord, Prog.lift, Prog.bind_op, Prog.bind_ret, Prog.pure_eq_ret]
  iintro ⟨#Hr, HO, Ht1, Hl1, Ht2, Hl2⟩ Hk
  iapply (signal_bar m ρ K (c := c) (dev1_eq c) (by revert c; decide) rfl (oweB2 c) rfl) $$ [HO Ht1 Hl1]
  · isplitr; · iexact Hr
    isplitl [HO]; · iexact HO
    isplitl [Ht1] <;> iassumption
  iintro HO
  iapply (signal_bar m ρ K (c := c) (dev2_eq c) (by revert c; decide) rfl (oweB1 c) rfl) $$ [HO Ht2 Hl2]
  · isplitr; · iexact Hr
    isplitl [HO]; · iexact HO
    isplitl [Ht2] <;> iassumption
  iintro HO
  iapply wp_done
  iapply Hk $$ %_ %_ %_ %_ HO

theorem off1_eq (c : Dev nD) : k0_off1 c = ![1024 * c.val, 0] := by revert c; decide
theorem off2_right (c : Dev nD) : k0_off2 c 1#32 = ![1024 * (right c).val, 0] := by revert c; decide
theorem off3_right (c : Dev nD) : k0_off3 c 1#32 = ![1024 * (right c).val, 0] := by revert c; decide
theorem off3_left (c : Dev nD) : k0_off3 c 3#32 = ![1024 * (left c).val, 0] := by revert c; decide
theorem off3_diag (c : Dev nD) : k0_off3 c 2#32 = ![1024 * (diag c).val, 0] := by revert c; decide

theorem pay1_apply (x : S1024x1024.Idx → Elt F .f32) (j : S1024x1024.Idx) : k0_pay1 x j = FloatOps.truncf .bf16 bitsLt_bf16_f32 (x j) := by
  unfold k0_pay1; simp only [shapeCast_self]; rfl

/-- The signal to the left, the barrier's wait, the first two copies of `w`, and the cast of the right neighbour's rows. -/
theorem third_part {c : Dev nD} {v2 v13 v65 v66 : BitVec 32} {v67 : BitVec 1} {v0 : BitVec 32} {Q : _ → sProp 𝕄} :
    iprop(records m ρ K ∗ levAts L lv ∗ due c (oweB1 c) ∗ tok (left c) barK 0 c ∗ lFree c (left c) 0 1024 slot_le
        ∗ pos c barK 0 ∗ crd c barK 3
        ∗ wRegion m ρ c c ∗ gFree c 0 ∗ tok c (copyK 0) 0 0 ∗ wRegion m ρ c (right c) ∗ gFree c 1 ∗ tok c (copyK 1) 0 0
        ∗ xStage m ρ c ∗ xFree c (right c))
      ⊢ iprop((iprop(due c (oweR c) ∗ fin c barK ∗ lFree (right c) c 0 1024 slot_le ∗ lFree (diag c) c 0 1024 slot_le ∗ lFree (left c) c 0 1024 slot_le
            ∗ crd c (copyK 0) NW ∗ crd c (copyK 1) NW ∗ xStage m ρ c ∗ xRegion m ρ c (1024 * (right c).val) 1024 (block_le' _)) -∗ Q ⟨⟩)
        -∗ WP c (k0_part3 mX hX mW hW mO hO mB hB mL hL mG hG cc0_scratch3 cc0_scratch4 cc0_scratch5 cc0_scratch6 cc0_scratch7 c v2 v13
            (SemArray.scalar (sig.barrier 0 rfl)) v65 v66 v67 v0) Q) := by
  rw [k0_part3_eq_skeleton]; unfold k0_part3_skel
  simp only [semSignalWord, semWaitWord, Prog.lift, Prog.bind_op, Prog.bind_ret, Prog.pure_eq_ret]
  iintro ⟨#Hr, #Hlev, HO, Ht, Hl, Hat, Hcb, Hw1, Hg1, Htg1, Hw2, Hg2, Htg2, HX, HB⟩ Hk
  iapply (signal_bar m ρ K (c := c) (dev3_eq c) (by revert c; decide) rfl (oweR c) rfl) $$ [HO Ht Hl]
  · isplitr; · iexact Hr
    isplitl [HO]; · iexact HO
    isplitl [Ht] <;> iassumption
  iintro HO
  iapply (wait_bar m ρ K (c := c) rfl) $$ [HO Hat Hcb]
  · isplitr; · iexact Hr
    isplitr; · iexact Hlev
    isplitl [HO]; · iexact HO
    isplitl [Hat] <;> iassumption
  iintro ⟨HO, Hfin, Hl1, Hl2, Hl3⟩
  ihave ⟨-, Hre1⟩ := (records_at m ρ K c (copyK 0)) $$ Hr
  iapply (copy_rows m ρ K (c := c) 0 0 (by decide) c rfl (off1_eq c) rfl rfl) $$ [Hw1 Hg1 Htg1 Hre1]
  · isplitr; · iexact Hr
    isplitl [Hw1]; · iexact Hw1
    isplitl [Hg1]; · iexact Hg1
    isplitl [Htg1] <;> iassumption
  iintro Hc1
  ihave ⟨-, Hre2⟩ := (records_at m ρ K c (copyK 1)) $$ Hr
  iapply (copy_rows m ρ K (c := c) 1 0 (by decide) (right c) rfl (off2_right c) rfl rfl) $$ [Hw2 Hg2 Htg2 Hre2]
  · isplitr; · iexact Hr
    isplitl [Hw2]; · iexact Hw2
    isplitl [Hg2]; · iexact Hg2
    isplitl [Htg2] <;> iassumption
  iintro Hc2
  iapply (load_x m ρ (right c) (off3_right c)) $$ HX
  iintro HX
  iapply (load_old (right c) (off3_right c)) $$ HB
  iintro %v HB
  iapply (store_cast m ρ (right c) (off3_right c) (fun j => pay1_apply _ j)) $$ HB
  iintro HB
  iapply wp_done
  iapply Hk
  isplitl [HO]; · iexact HO
  isplitl [Hfin]; · iexact Hfin
  isplitl [Hl1]; · iexact Hl1
  isplitl [Hl2]; · iexact Hl2
  isplitl [Hl3]; · iexact Hl3
  isplitl [Hc1]; · iexact Hc1
  isplitl [Hc2]; · iexact Hc2
  isplitl [HX] <;> iassumption

/-! ## The sends -/

theorem off6_right (c : Dev nD) : k0_off6 c 1#32 = ![1024 * (right c).val, 0] := by revert c; decide
theorem off6_left (c : Dev nD) : k0_off6 c 3#32 = ![1024 * (left c).val, 0] := by revert c; decide

/-- The semaphore a device's own block lands on at its neighbours. -/
theorem recv_sem (c : Dev nD) :
    SemLoc.dma ((cc0_scratch4.slice (Rect.unit (s := S4) (k0_off4 c) S1.size (k0_off4_inb c))).squeeze S_ squeezes_S1_S_).sem = csem (recvK c) := by
  revert c; decide

theorem payload_recv (o s : Dev nD) : payloadN m ρ o (recvK s).val 0 0 = lRegion m ρ o s 0 1024 slot_le := by
  have hs : s.val < 4 := s.isLt
  unfold payloadN
  have h : 11 + s.val - 11 = s.val := by omega
  rw [if_neg (by dsimp only; omega), dif_neg (by dsimp only; omega), dif_pos ⟨by dsimp only; omega, by dsimp only; omega⟩]
  simp only [h]

theorem duties_recv_right (c : Dev nD) : dutiesN (right c) (recvK c).val 0 = {0} := by revert c; decide
theorem duties_recv_left (c : Dev nD) : dutiesN (left c) (recvK c).val 0 = {0} := by revert c; decide
theorem duties_slice (c : Dev nD) (q : Fin 8) : dutiesN c (sliceK q).val 0 = {0} := by revert c q; decide

theorem amount_sent_block (j : Fin 10) (h : j.val < 2) : amountN (1 + j.val) = NR 1024 := by
  unfold amountN; rw [if_neg (by omega), if_pos (by omega)]
theorem amount_sent_slice (j : Fin 10) (h : 2 ≤ j.val) : amountN (1 + j.val) = NR 128 := by
  have := j.isLt
  unfold amountN; rw [if_neg (by omega), if_neg (by omega), if_pos (by omega)]
theorem amount_recv (s : Dev nD) : amountN (recvK s).val = NR 1024 := by
  have : s.val < 4 := s.isLt
  unfold amountN; dsimp only; rw [if_neg (by omega), if_neg (by omega), if_neg (by omega), if_pos (by omega)]
theorem amount_slice (q : Fin 8) : amountN (sliceK q).val = NR 128 := by
  have := q.isLt
  unfold amountN; dsimp only; rw [if_neg (by omega), if_neg (by omega), if_neg (by omega), if_neg (by omega), if_pos (by omega)]

/-- The send of slice `q`. -/
abbrev sendQ (q : Fin 8) : Fin 10 := ⟨2 + q.val, by have := q.isLt; omega⟩

theorem payload_slice (c : Dev nD) (q : Fin 8) : payloadN m ρ c (sliceK q).val 0 0 = lRegion m ρ c (diag c) (128 * q.val) 128 (slice_le q) := by
  have hq := q.isLt
  unfold payloadN
  have h : 15 + q.val - 15 = q.val := by omega
  rw [if_neg (by dsimp only; omega), dif_neg (by dsimp only; omega), dif_neg (by dsimp only; omega), dif_pos ⟨by dsimp only; omega, by dsimp only; omega⟩]
  simp only [h]

/-- What the send of slice `q` takes: the rows, their place across, and the two duties' tokens. -/
def sliceIn (c : Dev nD) (q : Fin 8) : sProp 𝕄 :=
  iprop(xRegion m ρ c (1024 * (diag c).val + 128 * q.val) 128 (slice_le' c q) ∗ lFree (diag c) c (128 * q.val) 128 (slice_le q)
    ∗ tok c (sendK (sendQ q)) 0 0 ∗ tok (diag c) (sliceK q) 0 0)

theorem oweS_step (c : Dev nD) (q : Fin 8) : oweS c (8 - q.val) = oweS c (7 - q.val) + tallyAt (kcell (diag c) (sliceK q)) () (NR 128) := by
  revert q; intro q
  match q with
  | 0 => rfl | 1 => rfl | 2 => rfl | 3 => rfl | 4 => rfl | 5 => rfl | 6 => rfl | 7 => rfl

theorem sentLo_slice (c : Dev nD) (q : Fin 8) : sentLo c (sendQ q).val = 1024 * (diag c).val + 128 * q.val := by
  unfold sentLo; dsimp only
  rw [if_neg (by omega), if_neg (by omega)]
  have : 2 + q.val - 2 = q.val := by omega
  rw [this]

theorem sentN_slice (q : Fin 8) : sentN (sendQ q).val = 128 := by
  unfold sentN; dsimp only
  rw [if_neg (by omega)]

theorem send_slice {c d : Dev nD} (q : Fin 8) (n n' : ℕ) (hd : d = diag c) (hn : n = 8 - q.val) (hn' : n' = 7 - q.val)
    {off : Fin 2 → ℕ} (hoff : off = ![1024 * (diag c).val + 128 * q.val, 0]) {inb : ∀ a, off a + (![128, 1024] : Fin 2 → ℕ) a ≤ S4096x1024.size a}
    {off' : Fin 3 → ℕ} (hoff' : off' = ![c.val, 128 * q.val, 0]) {inb' : ∀ a, off' a + (![1, 128, 1024] : Fin 3 → ℕ) a ≤ S4x1024x1024.size a}
    {sq : (⟨3, ![1, 128, 1024]⟩ : Shape).Squeezes ⟨2, ![128, 1024]⟩}
    {sS sem : DmaSem sig} (hs : SemLoc.dma sS = csem (sendK (sendQ q))) (hs' : SemLoc.dma sem = csem (sliceK q))
    {hu hu'} {hsc : ((mL.slice (Rect.unit (s := S4x1024x1024) off' ![1, 128, 1024] inb') hu').squeeze ⟨2, ![128, 1024]⟩ sq : Memref sig (Dev.tc d : Thread nD τ).2.kind .vmem ⟨2, ![128, 1024]⟩ .bf16).view.ref.isScScratch = false}
    {hsrc hdst hsem}
    {α : Type} {k : PUnit → Prog (TpuEff nD τ sig (Elt F) Λ₀ .tc) α} {Q : α → sProp 𝕄} :
    iprop(records m ρ K ∗ sliceIn m ρ c q ∗ due c (oweS c n))
      ⊢ iprop((iprop(crd c (sendK (sendQ q)) (NR 128) ∗ due c (oweS c n')) -∗ WP c (k ⟨⟩) Q)
          -∗ WP c (.op (.enqueueDma (mB.slice (Rect.unit (s := S4096x1024) off ![128, 1024] inb) hu)
              (.remote (Dev.tc d : Thread nD τ) ((mL.slice (Rect.unit (s := S4x1024x1024) off' ![1, 128, 1024] inb') hu').squeeze ⟨2, ![128, 1024]⟩ sq) (.dma sS) hsc)
              (.dma sem) hsrc hdst hsem) k) Q) := by
  subst hn hn'
  unfold sliceIn
  iintro ⟨#Hr, ⟨Hx, Hl, Ht, Ht'⟩, HO⟩ Hk
  iapply (send_rows m ρ K (c := c) (o := diag c) (d := d) (n := 128) (sendQ q) (sliceK q) (1024 * (diag c).val + 128 * q.val) (128 * q.val) (slice_le' c q) (slice_le q)
    hd rfl (sentLo_slice c q) (sentN_slice q) (duties_slice _ q) (by rw [payload_slice, diag_diag]) (amount_sent_slice _ (by dsimp only; omega)) (amount_slice q)
    hoff hoff' hs hs' (oweS c (7 - q.val)) (oweS_step c q)) $$ [Hx Hl HO Ht Ht']
  · isplitr; · iexact Hr
    isplitl [Hx]; · iexact Hx
    isplitl [Hl]; · iexact Hl
    isplitl [HO]; · iexact HO
    isplitl [Ht] <;> iassumption
  iexact Hk

/-- The send of the right neighbour's rows, the cast and send of the left neighbour's, and the cast of those across. -/
theorem fourth_part {c : Dev nD} {v13 v24 v35 : BitVec 32} {Q : _ → sProp 𝕄} :
    iprop(records m ρ K ∗ due c (oweR c) ∗ xRegion m ρ c (1024 * (right c).val) 1024 (block_le' _) ∗ lFree (right c) c 0 1024 slot_le
        ∗ tok c (sendK 0) 0 0 ∗ tok (right c) (recvK c) 0 0 ∗ xStage m ρ c
        ∗ xFree c (left c) ∗ lFree (left c) c 0 1024 slot_le ∗ tok c (sendK 1) 0 0 ∗ tok (left c) (recvK c) 0 0 ∗ xFree c (diag c))
      ⊢ iprop((∀ v, iprop(due c (oweS c 8) ∗ crd c (sendK 0) (NR 1024) ∗ crd c (sendK 1) (NR 1024) ∗ xStage m ρ c ∗ xFree c (diag c))
            -∗ Q ⟨k0_pay3 (xblk m ρ c (diag c)), v⟩)
        -∗ WP c (k0_part4 mX hX mW hW mO hO mB hB mL hL mG hG cc0_scratch3 cc0_scratch4 cc0_scratch5 cc0_scratch6 cc0_scratch7 c v13 v24 v35) Q) := by
  rw [k0_part4_eq_skeleton]; unfold k0_part4_skel
  simp only [Prog.lift, Prog.bind_op, Prog.bind_ret, Prog.pure_eq_ret]
  iintro ⟨#Hr, HO, HB1, Hl1, Hs1, Ht1, HX, HB2, Hl2, Hs2, Ht2, HB3⟩ Hk
  iapply (send_rows m ρ K (c := c) (o := right c) (n := 1024) 0 (recvK c) (1024 * (right c).val) 0 (block_le' _) slot_le (dev4_eq c) rfl rfl rfl
    (duties_recv_right c) (payload_recv m ρ (right c) c) (amount_sent_block 0 (by decide)) (amount_recv c) (off6_right c) (k0_off5_eq c) rfl (recv_sem c) (oweL c) rfl) $$ [HO HB1 Hl1 Hs1 Ht1]
  · isplitr; · iexact Hr
    isplitl [HB1]; · iexact HB1
    isplitl [Hl1]; · iexact Hl1
    isplitl [HO]; · iexact HO
    isplitl [Hs1] <;> iassumption
  iintro ⟨Hc1, HO⟩
  iapply (load_x m ρ (left c) (off3_left c)) $$ HX
  iintro HX
  iapply (load_old (left c) (off3_left c)) $$ HB2
  iintro %v HB2
  iapply (store_cast m ρ (left c) (off3_left c) (fun j => pay1_apply _ j)) $$ HB2
  iintro HB2
  iapply (send_rows m ρ K (c := c) (o := left c) (n := 1024) 1 (recvK c) (1024 * (left c).val) 0 (block_le' _) slot_le (dev5_eq c) rfl rfl rfl
    (duties_recv_left c) (payload_recv m ρ (left c) c) (amount_sent_block 1 (by decide)) (amount_recv c) (off6_left c) (k0_off5_eq c) rfl (recv_sem c) (oweS c 8) rfl) $$ [HO HB2 Hl2 Hs2 Ht2]
  · isplitr; · iexact Hr
    isplitl [HB2]; · iexact HB2
    isplitl [Hl2]; · iexact Hl2
    isplitl [HO]; · iexact HO
    isplitl [Hs2] <;> iassumption
  iintro ⟨Hc2, HO⟩
  iapply (load_x m ρ (diag c) (off3_diag c)) $$ HX
  iintro HX
  iapply (load_old (diag c) (off3_diag c)) $$ HB3
  iintro %v' HB3
  iapply wp_done
  iapply Hk $$ %_
  isplitl [HO]; · iexact HO
  isplitl [Hc1]; · iexact Hc1
  isplitl [Hc2]; · iexact Hc2
  isplitl [HX] <;> iassumption

theorem off8_eq (c : Dev nD) (q : Fin 8) : k0_off8 c (BitVec.ofNat 32 (128 * q.val)) = ![1024 * (diag c).val + 128 * q.val, 0] := by
  revert c q; decide

theorem pay4_apply (x : S1024x1024.Idx → Elt F .f32) (j : S1024x1024.Idx) : k0_pay4 (k0_pay3 x) j = FloatOps.truncf .bf16 bitsLt_bf16_f32 (x j) := by
  unfold k0_pay4 k0_pay3; simp only [shapeCast_self]; rfl

theorem slices_ready (c : Dev nD) :
    iprop(xRegion m ρ c (1024 * (diag c).val) 1024 (block_le' _) ∗ lFree (diag c) c 0 1024 slot_le
        ∗ (bigSep Finset.univ fun q : Fin 8 => tok c (sendK (sendQ q)) 0 0) ∗ (bigSep Finset.univ fun q : Fin 8 => tok (diag c) (sliceK q) 0 0))
      ⊢ bigSep Finset.univ (sliceIn m ρ c) := by
  unfold sliceIn
  rw [bigSep_sep', bigSep_sep', bigSep_sep', ← xRegion_cut]
  exact BI.sep_mono (BI.Entails.refl _) (BI.sep_mono (lFree_cut _ _) (BI.Entails.refl _))

/-- The store of the cast of the rows across, and the sends of its first two slices, -/
theorem fifth_part {c : Dev nD} {v35 : BitVec 32} {v135} {Q : _ → sProp 𝕄} :
    iprop(records m ρ K ∗ due c (oweS c 8) ∗ xFree c (diag c) ∗ lFree (diag c) c 0 1024 slot_le
        ∗ (bigSep Finset.univ fun q : Fin 8 => tok c (sendK (sendQ q)) 0 0) ∗ (bigSep Finset.univ fun q : Fin 8 => tok (diag c) (sliceK q) 0 0))
      ⊢ iprop((iprop(due c (oweS c 6) ∗ crd c (sendK 2) (NR 128) ∗ crd c (sendK 3) (NR 128)
            ∗ sliceIn m ρ c 2 ∗ sliceIn m ρ c 3 ∗ sliceIn m ρ c 4 ∗ sliceIn m ρ c 5 ∗ sliceIn m ρ c 6 ∗ sliceIn m ρ c 7) -∗ Q ⟨⟩)
        -∗ WP c (k0_part5 mX hX mW hW mO hO mB hB mL hL mG hG cc0_scratch3 cc0_scratch4 cc0_scratch5 cc0_scratch6 cc0_scratch7 c v35
            (k0_pay3 (xblk m ρ c (diag c))) v135) Q) := by
  rw [k0_part5_eq_skeleton]; unfold k0_part5_skel
  simp only [Prog.lift, Prog.bind_op, Prog.bind_ret, Prog.pure_eq_ret]
  iintro ⟨#Hr, HO, HB, Hl, Ht, Ht'⟩ Hk
  iapply (store_cast m ρ (diag c) (off3_diag c) (fun j => pay4_apply _ j)) $$ HB
  iintro HB
  ihave Hs := ((slices_ready m ρ c).trans (ent_of_eq (sep_eight _))) $$ [HB Hl Ht Ht']
  · isplitl [HB]; · iexact HB
    isplitl [Hl]; · iexact Hl
    isplitl [Ht] <;> iassumption
  icases Hs with ⟨Hs0, Hs1, Hs⟩
  iapply (send_slice m ρ K (c := c) 0 8 7 (dev6_eq c) rfl rfl (off8_eq c 0) (k0_off7_eq c) rfl rfl) $$ [HO Hs0]
  · isplitr; · iexact Hr
    isplitl [Hs0] <;> iassumption
  iintro ⟨Hc0, HO⟩
  iapply (send_slice m ρ K (c := c) 1 7 6 (dev7_eq c) rfl rfl (off8_eq c 1) (k0_off9_eq c) rfl rfl) $$ [HO Hs1]
  · isplitr; · iexact Hr
    isplitl [Hs1] <;> iassumption
  iintro ⟨Hc1, HO⟩
  iapply wp_done
  iapply Hk
  isplitl [HO]; · iexact HO
  isplitl [Hc0]; · iexact Hc0
  isplitl [Hc1]; · iexact Hc1
  iexact Hs

/-- of the next three, -/
theorem sixth_part {c : Dev nD} {v35 : BitVec 32} {Q : _ → sProp 𝕄} :
    iprop(records m ρ K ∗ due c (oweS c 6) ∗ sliceIn m ρ c 2 ∗ sliceIn m ρ c 3 ∗ sliceIn m ρ c 4)
      ⊢ iprop((iprop(due c (oweS c 3) ∗ crd c (sendK 4) (NR 128) ∗ crd c (sendK 5) (NR 128) ∗ crd c (sendK 6) (NR 128)) -∗ Q ⟨⟩)
        -∗ WP c (k0_part6 mX hX mW hW mO hO mB hB mL hL mG hG cc0_scratch3 cc0_scratch4 cc0_scratch5 cc0_scratch6 cc0_scratch7 c v35) Q) := by
  rw [k0_part6_eq_skeleton]; unfold k0_part6_skel
  simp only [Prog.lift, Prog.bind_op, Prog.bind_ret, Prog.pure_eq_ret]
  iintro ⟨#Hr, HO, Hs0, Hs1, Hs2⟩ Hk
  iapply (send_slice m ρ K (c := c) 2 6 5 (dev8_eq c) rfl rfl (off8_eq c 2) (k0_off10_eq c) rfl rfl) $$ [HO Hs0]
  · isplitr; · iexact Hr
    isplitl [Hs0] <;> iassumption
  iintro ⟨Hc0, HO⟩
  iapply (send_slice m ρ K (c := c) 3 5 4 (dev9_eq c) rfl rfl (off8_eq c 3) (k0_off11_eq c) rfl rfl) $$ [HO Hs1]
  · isplitr; · iexact Hr
    isplitl [Hs1] <;> iassumption
  iintro ⟨Hc1, HO⟩
  iapply (send_slice m ρ K (c := c) 4 4 3 (dev10_eq c) rfl rfl (off8_eq c 4) (k0_off12_eq c) rfl rfl) $$ [HO Hs2]
  · isplitr; · iexact Hr
    isplitl [Hs2] <;> iassumption
  iintro ⟨Hc2, HO⟩
  iapply wp_done
  iapply Hk
  isplitl [HO]; · iexact HO
  isplitl [Hc0]; · iexact Hc0
  isplitl [Hc1] <;> iassumption

/-- and of the last three: nothing is owed any more. -/
theorem seventh_part {c : Dev nD} {v2 v35 : BitVec 32} {Q : _ → sProp 𝕄} :
    iprop(records m ρ K ∗ due c (oweS c 3) ∗ sliceIn m ρ c 5 ∗ sliceIn m ρ c 6 ∗ sliceIn m ρ c 7)
      ⊢ iprop((iprop(due c 0 ∗ crd c (sendK 7) (NR 128) ∗ crd c (sendK 8) (NR 128) ∗ crd c (sendK 9) (NR 128)) -∗ Q ⟨⟩)
        -∗ WP c (k0_part7 mX hX mW hW mO hO mB hB mL hL mG hG cc0_scratch3 cc0_scratch4 cc0_scratch5 cc0_scratch6 cc0_scratch7 c v2 v35) Q) := by
  rw [k0_part7_eq_skeleton]; unfold k0_part7_skel
  simp only [Prog.lift, Prog.bind_op, Prog.bind_ret, Prog.pure_eq_ret]
  iintro ⟨#Hr, HO, Hs0, Hs1, Hs2⟩ Hk
  iapply (send_slice m ρ K (c := c) 5 3 2 (dev11_eq c) rfl rfl (off8_eq c 5) (k0_off13_eq c) rfl rfl) $$ [HO Hs0]
  · isplitr; · iexact Hr
    isplitl [Hs0] <;> iassumption
  iintro ⟨Hc0, HO⟩
  iapply (send_slice m ρ K (c := c) 6 2 1 (dev12_eq c) rfl rfl (off8_eq c 6) (k0_off14_eq c) rfl rfl) $$ [HO Hs1]
  · isplitr; · iexact Hr
    isplitl [Hs1] <;> iassumption
  iintro ⟨Hc1, HO⟩
  iapply (send_slice m ρ K (c := c) 7 1 0 (dev13_eq c) rfl rfl (off8_eq c 7) (k0_off15_eq c) rfl rfl) $$ [HO Hs2]
  · isplitr; · iexact Hr
    isplitl [Hs2] <;> iassumption
  iintro ⟨Hc2, HO⟩
  iapply wp_done
  iapply Hk
  isplitl [HO]; · iexact HO
  isplitl [Hc0]; · iexact Hc0
  isplitl [Hc1] <;> iassumption

end Cert.KernelIdeal.Mesh

end
-- ==== Proof.KernelIdeal.Products.lean ====
/-
# The products of the rows of the device itself and of its two neighbours
-/
module

public import proofs.«01_k».proof.Proof.KernelIdeal.Opening

@[expose] public section

noncomputable section

namespace Cert.KernelIdeal.Mesh

open Cert.KernelIdeal Cert.KernelIdeal.Gen Cert.Blocks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 26 → ℕ)
variable (hX : mX.IsWhole) (hW : mW.IsWhole) (hO : mO.IsWhole) (hB : mB.IsWhole) (hL : mL.IsWhole) (hG : mG.IsWhole)

/-! ## Waiting for a copy of rows of `w` and for a neighbour's block -/

theorem wait_first {c : Dev nD} (u : Fin 2) (s₀ : Dev nD) (hc : copied c u.val 0 = s₀) {sem : DmaSem sig} (hs : SemLoc.dma sem = csem (copyK u))
    {sp sp' : Space} {s s' : Shape} {e e' : EltTy} {src : Memref sig .tc sp' s' e'} {dst : Memref sig .tc sp s e}
    {hsrc : src.view.WordExact} {hdst : dst.view.WordExact} (hN : dst.view.dmaCredit = NW)
    {α : Type} {k' : PUnit → Prog (TpuEff nD τ sig (Elt F) Λ₀ .tc) α} {Q : α → sProp 𝕄} :
    iprop(records m ρ K ∗ due c 0 ∗ pos c (copyK u) 0 ∗ crd c (copyK u) NW)
      ⊢ iprop((iprop(due c 0 ∗ pos c (copyK u) 1 ∗ reached ER (kcell c (copyK u)) 1 ∗ gRegion m ρ c u s₀ ∗ wRegion m ρ c s₀) -∗ WP c (k' ⟨⟩) Q)
          -∗ WP c (.op (.waitDma2 sem src dst hsrc hdst) k') Q) := by
  subst hc
  rw [← payload_copy]
  exact wait_next m ρ K (copyK u) 0 (duties_copy c u 0 (by decide)) hs NW hN (amount_copy u)

theorem wait_second {c : Dev nD} (u : Fin 2) (s₀ : Dev nD) (hc : copied c u.val 1 = s₀) {sem : DmaSem sig} (hs : SemLoc.dma sem = csem (copyK u))
    {sp sp' : Space} {s s' : Shape} {e e' : EltTy} {src : Memref sig .tc sp' s' e'} {dst : Memref sig .tc sp s e}
    {hsrc : src.view.WordExact} {hdst : dst.view.WordExact} (hN : dst.view.dmaCredit = NW)
    {α : Type} {k' : PUnit → Prog (TpuEff nD τ sig (Elt F) Λ₀ .tc) α} {Q : α → sProp 𝕄} :
    iprop(records m ρ K ∗ due c 0 ∗ pos c (copyK u) 1 ∗ crd c (copyK u) NW)
      ⊢ iprop((iprop(due c 0 ∗ fin c (copyK u) ∗ gRegion m ρ c u s₀ ∗ wRegion m ρ c s₀) -∗ WP c (k' ⟨⟩) Q)
          -∗ WP c (.op (.waitDma2 sem src dst hsrc hdst) k') Q) := by
  subst hc
  rw [← payload_copy]
  exact wait_last m ρ K (copyK u) 1 (duties_copy c u 1 (by decide)) (fun r' h => duties_later2 m ρ c (copyK u) r' h) hs NW hN (amount_copy u)

/-- The device whose block is waited for is a neighbour. -/
theorem duties_neighbour (c : Dev nD) : dutiesN c (recvK (right c)).val 0 = {0} ∧ dutiesN c (recvK (left c)).val 0 = {0} := by revert c; decide

theorem wait_block {c s : Dev nD} (hd : dutiesN c (recvK s).val 0 = {0}) {sem : DmaSem sig} (hs : SemLoc.dma sem = csem (recvK s))
    {sp sp' : Space} {s₁ s' : Shape} {e e' : EltTy} {src : Memref sig .tc sp' s' e'} {dst : Memref sig .tc sp s₁ e}
    {hsrc : src.view.WordExact} {hdst : dst.view.WordExact} (hN : dst.view.dmaCredit = NR 1024)
    {α : Type} {k' : PUnit → Prog (TpuEff nD τ sig (Elt F) Λ₀ .tc) α} {Q : α → sProp 𝕄} :
    iprop(records m ρ K ∗ due c 0 ∗ pos c (recvK s) 0 ∗ crd c (recvK s) (NR 1024))
      ⊢ iprop((iprop(due c 0 ∗ fin c (recvK s) ∗ lRegion m ρ c s 0 1024 slot_le) -∗ WP c (k' ⟨⟩) Q)
          -∗ WP c (.op (.waitDma2 sem src dst hsrc hdst) k') Q) := by
  rw [← payload_recv]
  exact wait_last m ρ K (recvK s) 0 hd (fun r' h => duties_later m ρ c (recvK s) (by have : s.val < 4 := s.isLt; dsimp only; omega) r' h) hs (NR 1024) hN (amount_recv s)

theorem sem_right (c : Dev nD) :
    SemLoc.dma ((cc0_scratch4.slice (Rect.unit (s := S4) (k0_off17 c 1#32) S1.size (k0_off17_inb c 0))).squeeze S_ squeezes_S1_S_).sem = csem (recvK (right c)) := by
  revert c; decide
theorem sem_left (c : Dev nD) :
    SemLoc.dma ((cc0_scratch4.slice (Rect.unit (s := S4) (k0_off17 c 3#32) S1.size (k0_off17_inb c 1))).squeeze S_ squeezes_S1_S_).sem = csem (recvK (left c)) := by
  revert c; decide

theorem off2_left (c : Dev nD) : k0_off2 c 3#32 = ![1024 * (left c).val, 0] := by revert c; decide
theorem off2_diag (c : Dev nD) : k0_off2 c 2#32 = ![1024 * (diag c).val, 0] := by revert c; decide
theorem off19_right (c : Dev nD) : k0_off19 c 1#32 = ![(right c).val, 0, 0] := by revert c; decide
theorem off19_left (c : Dev nD) : k0_off19 c 3#32 = ![(left c).val, 0, 0] := by revert c; decide

/-! ## What the result buffer holds after each product -/

/-- The device's own product, -/
def acc0 (c : Dev nD) : S1024x2048.Idx → Elt F .f32 := k0_pay5 (xblk m ρ c c) (wblk m ρ c c)
/-- with the right neighbour's, -/
def acc1 (c : Dev nD) : S1024x2048.Idx → Elt F .f32 := k0_pay6 (acc0 m ρ c) (lblk m ρ c (right c)) (wblk m ρ c (right c))
/-- and with the left neighbour's too. -/
def acc2 (c : Dev nD) : S1024x2048.Idx → Elt F .f32 := k0_pay7 (acc1 m ρ c) (lblk m ρ c (left c)) (wblk m ρ c (left c))

/-- The device's own product; then the right neighbour's block and rows arrive. -/
theorem eighth_part {c : Dev nD} {v2 v13 v24 : BitVec 32} {f : S1024x2048.Idx → Elt F .f32} {Q : _ → sProp 𝕄} :
    iprop(records m ρ K ∗ due c 0 ∗ pos c (copyK 0) 0 ∗ crd c (copyK 0) NW ∗ pos c (copyK 1) 0 ∗ crd c (copyK 1) NW
        ∗ pos c (recvK (right c)) 0 ∗ crd c (recvK (right c)) (NR 1024) ∗ xStage m ρ c ∗ oAll c f)
      ⊢ iprop((iprop(due c 0 ∗ pos c (copyK 0) 1 ∗ reached ER (kcell c (copyK 0)) 1 ∗ gRegion m ρ c 0 c ∗ wRegion m ρ c c
            ∗ fin c (recvK (right c)) ∗ lRegion m ρ c (right c) 0 1024 slot_le
            ∗ pos c (copyK 1) 1 ∗ reached ER (kcell c (copyK 1)) 1 ∗ gRegion m ρ c 1 (right c) ∗ wRegion m ρ c (right c)
            ∗ xStage m ρ c ∗ oAll c (acc0 m ρ c)) -∗ Q ⟨⟩)
        -∗ WP c (k0_part8 mX hX mW hW mO hO mB hB mL hL mG hG cc0_scratch3 cc0_scratch4 cc0_scratch5 cc0_scratch6 cc0_scratch7 c v2 v13 v24) Q) := by
  rw [k0_part8_eq_skeleton]; unfold k0_part8_skel
  simp only [Prog.lift, Prog.bind_op, Prog.bind_ret, Prog.pure_eq_ret]
  iintro ⟨#Hr, HO, Hp0, Hc0, Hp1, Hc1, Hp, Hc, HX, Hout⟩ Hk
  iapply (wait_first m ρ K (c := c) 0 c rfl rfl rfl) $$ [HO Hp0 Hc0]
  · isplitr; · iexact Hr
    isplitl [HO]; · iexact HO
    isplitl [Hp0] <;> iassumption
  iintro ⟨HO, Hp0, Hr0, Hg0, Hw0⟩
  iapply (load_x m ρ c (k0_off16_eq c)) $$ HX
  iintro HX
  iapply (load_slot m ρ 0 c rfl) $$ Hg0
  iintro Hg0
  iapply load_out $$ Hout
  iintro Hout
  iapply (store_out (w := acc0 m ρ c)) $$ Hout
  iintro Hout
  iapply (wait_block m ρ K (c := c) (s := right c) (duties_neighbour c).1 (sem_right c) rfl) $$ [HO Hp Hc]
  · isplitr; · iexact Hr
    isplitl [HO]; · iexact HO
    isplitl [Hp] <;> iassumption
  iintro ⟨HO, Hf, Hl⟩
  iapply (wait_first m ρ K (c := c) 1 (right c) rfl rfl rfl) $$ [HO Hp1 Hc1]
  · isplitr; · iexact Hr
    isplitl [HO]; · iexact HO
    isplitl [Hp1] <;> iassumption
  iintro ⟨HO, Hp1, Hr1, Hg1, Hw1⟩
  iapply wp_done
  iapply Hk
  isplitl [HO]; · iexact HO
  isplitl [Hp0]; · iexact Hp0
  isplitl [Hr0]; · iexact Hr0
  isplitl [Hg0]; · iexact Hg0
  isplitl [Hw0]; · iexact Hw0
  isplitl [Hf]; · iexact Hf
  isplitl [Hl]; · iexact Hl
  isplitl [Hp1]; · iexact Hp1
  isplitl [Hr1]; · iexact Hr1
  isplitl [Hg1]; · iexact Hg1
  isplitl [Hw1]; · iexact Hw1
  isplitl [HX] <;> iassumption

/-- The right neighbour's product, while the left neighbour's block and rows arrive. -/
theorem ninth_part {c : Dev nD} {v13 v24 v35 : BitVec 32} {Q : _ → sProp 𝕄} :
    iprop(records m ρ K ∗ due c 0 ∗ wRegion m ρ c (left c) ∗ gFree c 0 ∗ tok c (copyK 0) 1 0 ∗ reached ER (kcell c (copyK 0)) 1 ∗ pos c (copyK 0) 1
        ∗ oAll c (acc0 m ρ c) ∗ lRegion m ρ c (right c) 0 1024 slot_le ∗ gRegion m ρ c 1 (right c)
        ∗ pos c (recvK (left c)) 0 ∗ crd c (recvK (left c)) (NR 1024))
      ⊢ iprop((iprop(due c 0 ∗ oAll c (acc1 m ρ c) ∗ lRegion m ρ c (right c) 0 1024 slot_le ∗ gRegion m ρ c 1 (right c)
            ∗ fin c (recvK (left c)) ∗ lRegion m ρ c (left c) 0 1024 slot_le ∗ fin c (copyK 0) ∗ gRegion m ρ c 0 (left c) ∗ wRegion m ρ c (left c)) -∗ Q ⟨⟩)
        -∗ WP c (k0_part9 mX hX mW hW mO hO mB hB mL hL mG hG cc0_scratch3 cc0_scratch4 cc0_scratch5 cc0_scratch6 cc0_scratch7 c v13 v24 v35) Q) := by
  rw [k0_part9_eq_skeleton]; unfold k0_part9_skel
  simp only [Prog.lift, Prog.bind_op, Prog.bind_ret, Prog.pure_eq_ret]
  iintro ⟨#Hr, HO, Hw, Hg, Ht, Hre, Hp0, Hout, Hl, Hg1, Hp, Hc⟩ Hk
  iapply (copy_rows m ρ K (c := c) 0 1 (by decide) (left c) rfl (off2_left c) rfl rfl) $$ [Hw Hg Ht Hre]
  · isplitr; · iexact Hr
    isplitl [Hw]; · iexact Hw
    isplitl [Hg]; · iexact Hg
    isplitl [Ht] <;> iassumption
  iintro Hc0
  iapply load_out $$ Hout
  iintro Hout
  iapply (load_landed m ρ (right c) (off19_right c)) $$ Hl
  iintro Hl
  iapply (load_slot m ρ 1 (right c) rfl) $$ Hg1
  iintro Hg1
  iapply load_out $$ Hout
  iintro Hout
  iapply (store_out (w := acc1 m ρ c)) $$ Hout
  iintro Hout
  iapply (wait_block m ρ K (c := c) (s := left c) (duties_neighbour c).2 (sem_left c) rfl) $$ [HO Hp Hc]
  · isplitr; · iexact Hr
    isplitl [HO]; · iexact HO
    isplitl [Hp] <;> iassumption
  iintro ⟨HO, Hf, Hl'⟩
  iapply (wait_second m ρ K (c := c) 0 (left c) rfl rfl rfl) $$ [HO Hp0 Hc0]
  · isplitr; · iexact Hr
    isplitl [HO]; · iexact HO
    isplitl [Hp0] <;> iassumption
  iintro ⟨HO, Hf0, Hg0, Hw0⟩
  iapply wp_done
  iapply Hk
  isplitl [HO]; · iexact HO
  isplitl [Hout]; · iexact Hout
  isplitl [Hl]; · iexact Hl
  isplitl [Hg1]; · iexact Hg1
  isplitl [Hf]; · iexact Hf
  isplitl [Hl']; · iexact Hl'
  isplitl [Hf0]; · iexact Hf0
  isplitl [Hg0] <;> iassumption

/-- The left neighbour's product, while the rows of `w` of the device across arrive. -/
theorem tenth_part {c : Dev nD} {v24 v35 : BitVec 32} {Q : _ → sProp 𝕄} :
    iprop(records m ρ K ∗ due c 0 ∗ wRegion m ρ c (diag c) ∗ gFree c 1 ∗ tok c (copyK 1) 1 0 ∗ reached ER (kcell c (copyK 1)) 1 ∗ pos c (copyK 1) 1
        ∗ oAll c (acc1 m ρ c) ∗ lRegion m ρ c (left c) 0 1024 slot_le ∗ gRegion m ρ c 0 (left c))
      ⊢ iprop((iprop(due c 0 ∗ oAll c (acc2 m ρ c) ∗ lRegion m ρ c (left c) 0 1024 slot_le ∗ gRegion m ρ c 0 (left c)
            ∗ fin c (copyK 1) ∗ gRegion m ρ c 1 (diag c) ∗ wRegion m ρ c (diag c)) -∗ Q ⟨⟩)
        -∗ WP c (k0_part10 mX hX mW hW mO hO mB hB mL hL mG hG cc0_scratch3 cc0_scratch4 cc0_scratch5 cc0_scratch6 cc0_scratch7 c v24 v35) Q) := by
  rw [k0_part10_eq_skeleton]; unfold k0_part10_skel
  simp only [Prog.lift, Prog.bind_op, Prog.bind_ret, Prog.pure_eq_ret]
  iintro ⟨#Hr, HO, Hw, Hg, Ht, Hre, Hp1, Hout, Hl, Hg0⟩ Hk
  iapply (copy_rows m ρ K (c := c) 1 1 (by decide) (diag c) rfl (off2_diag c) rfl rfl) $$ [Hw Hg Ht Hre]
  · isplitr; · iexact Hr
    isplitl [Hw]; · iexact Hw
    isplitl [Hg]; · iexact Hg
    isplitl [Ht] <;> iassumption
  iintro Hc1
  iapply load_out $$ Hout
  iintro Hout
  iapply (load_landed m ρ (left c) (off19_left c)) $$ Hl
  iintro Hl
  iapply (load_slot m ρ 0 (left c) rfl) $$ Hg0
  iintro Hg0
  iapply load_out $$ Hout
  iintro Hout
  iapply (store_out (w := acc2 m ρ c)) $$ Hout
  iintro Hout
  iapply (wait_second m ρ K (c := c) 1 (diag c) rfl rfl rfl) $$ [HO Hp1 Hc1]
  · isplitr; · iexact Hr
    isplitl [HO]; · iexact HO
    isplitl [Hp1] <;> iassumption
  iintro ⟨HO, Hf1, Hg1, Hw1⟩
  iapply wp_done
  iapply Hk
  isplitl [HO]; · iexact HO
  isplitl [Hout]; · iexact Hout
  isplitl [Hl]; · iexact Hl
  isplitl [Hg0]; · iexact Hg0
  isplitl [Hf1]; · iexact Hf1
  isplitl [Hg1] <;> iassumption

end Cert.KernelIdeal.Mesh

end
-- ==== Proof.KernelIdeal.Closing.lean ====
/-
# The slices of the block across, and the sends run out
-/
module

public import proofs.«01_k».proof.Proof.KernelIdeal.Products

@[expose] public section

noncomputable section

namespace Cert.KernelIdeal.Mesh

open Cert.KernelIdeal Cert.KernelIdeal.Gen Cert.Blocks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)
variable (K : Dev nD × Fin 26 → ℕ)
variable (hX : mX.IsWhole) (hW : mW.IsWhole) (hO : mO.IsWhole) (hB : mB.IsWhole) (hL : mL.IsWhole) (hG : mG.IsWhole)

/-! ## The result -/

/-- A slice of the result: the product with the slice across added, and the whole put through the last function. -/
def oq (c : Dev nD) (q : Fin 8) : S128x2048.Idx → Elt F .f32 := k0_pay8 (oblk (acc2 m ρ c) q) (lslc m ρ c (diag c) q) (wblk m ρ c (diag c))

/-- The result of device `c`. -/
def outv (c : Dev nD) : S1024x2048.Idx → Elt F .f32 := fun i =>
  oq m ρ c ⟨(i 0).val / 128, by have := lt0 i; omega⟩ (at2 ((i 0).val % 128) (i 1).val (Nat.mod_lt _ (by decide)) (lt1 i))

theorem oblk_outv (c : Dev nD) (q : Fin 8) : oblk (outv m ρ c) q = oq m ρ c q := by
  funext j
  have h := lt0 j
  unfold oblk outv
  have e : (128 * q.val + (j 0).val) / 128 = q.val := by omega
  have e' : (128 * q.val + (j 0).val) % 128 = (j 0).val := by omega
  have key : ∀ (q' : Fin 8) (i' : S128x2048.Idx), q' = q → i' = j → oq m ρ c q' i' = oq m ρ c q j := by rintro _ _ rfl rfl; rfl
  exact key _ _ (Fin.ext e) (ext2 e' rfl)

/-! ## One slice -/

/-- Before a slice has come, -/
def slcPre (c : Dev nD) (q : Fin 8) : sProp 𝕄 := iprop(pos c (sliceK q) 0 ∗ crd c (sliceK q) (NR 128) ∗ oSlc c q (acc2 m ρ c))
/-- when it has come, -/
def slcMid (c : Dev nD) (q : Fin 8) : sProp 𝕄 :=
  iprop(fin c (sliceK q) ∗ lRegion m ρ c (diag c) (128 * q.val) 128 (slice_le q) ∗ oSlc c q (acc2 m ρ c))
/-- and when its part of the result is there. -/
def slcPost (c : Dev nD) (q : Fin 8) : sProp 𝕄 :=
  iprop(fin c (sliceK q) ∗ lRegion m ρ c (diag c) (128 * q.val) 128 (slice_le q) ∗ oSlc c q (outv m ρ c))

/-- The wait for a slice, and the loads of what it is to be added to and of the slice itself. -/
theorem slice_comes {c : Dev nD} (q : Fin 8) {sem : DmaSem sig} (hs : SemLoc.dma sem = csem (sliceK q))
    {sp sp' : Space} {s₁ s' : Shape} {e e' : EltTy} {src : Memref sig .tc sp' s' e'} {dst : Memref sig .tc sp s₁ e}
    {hsrc : src.view.WordExact} {hdst : dst.view.WordExact} (hN : dst.view.dmaCredit = NR 128)
    {off : Fin 2 → ℕ} (hoff : off = ![128 * q.val, 0]) {inb : ∀ a, off a + S128x2048.size a ≤ S1024x2048.size a} {hl}
    {off' : Fin 3 → ℕ} (hoff' : off' = ![(diag c).val, 128 * q.val, 0]) {inb' : ∀ a, off' a + S1x128x1024.size a ≤ S4x1024x1024.size a} {hl'}
    {α : Type} {k : (S128x2048.Idx → Elt F .f32) → (S1x128x1024.Idx → Elt F .bf16) → Prog (TpuEff nD τ sig (Elt F) Λ₀ .tc) α} {Q : α → sProp 𝕄} :
    iprop(records m ρ K ∗ due c 0 ∗ slcPre m ρ c q)
      ⊢ iprop((iprop(due c 0 ∗ slcMid m ρ c q) -∗ WP c (k (oblk (acc2 m ρ c) q) (lslc m ρ c (diag c) q)) Q)
        -∗ WP c (.op (.waitDma2 sem src dst hsrc hdst) fun _ =>
            .op (.load mO (Rect.unit (s := S1024x2048) off S128x2048.size inb).toLoadRect hl) fun v =>
            .op (.load mL (Rect.unit (s := S4x1024x1024) off' S1x128x1024.size inb').toLoadRect hl') (k v)) Q) := by
  unfold slcPre slcMid
  iintro ⟨#Hr, HO, Hp, Hc, Hout⟩ Hk
  iapply (wait_last m ρ K (c := c) (sliceK q) 0 (duties_slice c q)
    (fun r' h => duties_later m ρ c (sliceK q) (by have := q.isLt; dsimp only; omega) r' h) hs (NR 128) hN (amount_slice q)) $$ [HO Hp Hc]
  · isplitr; · iexact Hr
    isplitl [HO]; · iexact HO
    isplitl [Hp] <;> iassumption
  rw [payload_slice]
  iintro ⟨HO, Hf, Hl⟩
  iapply (load_oslc q hoff) $$ Hout
  iintro Hout
  iapply (load_slice m ρ (diag c) q hoff') $$ Hl
  iintro Hl
  iapply Hk
  isplitl [HO]; · iexact HO
  isplitl [Hf]; · iexact Hf
  isplitl [Hl] <;> iassumption

/-- The store of a slice of the result. -/
theorem slice_done {c : Dev nD} (q : Fin 8) {w : S128x2048.Idx → Elt F .f32} (hw : oq m ρ c q = w)
    {off : Fin 2 → ℕ} (hoff : off = ![128 * q.val, 0]) {inb : ∀ a, off a + S128x2048.size a ≤ S1024x2048.size a} {hl}
    {inb' : ∀ a, off a + S128x2048.size a ≤ S1024x2048.size a} {hx hm}
    {α : Type} {k : PUnit → Prog (TpuEff nD τ sig (Elt F) Λ₀ .tc) α} {Q : α → sProp 𝕄} :
    slcMid m ρ c q ⊢ iprop((slcPost m ρ c q -∗ WP c (k ⟨⟩) Q)
        -∗ WP c (.op (.load mO (Rect.unit (s := S1024x2048) off S128x2048.size inb).toLoadRect hl) fun _ =>
            .op (.store mO (Rect.unit (s := S1024x2048) off S128x2048.size inb') w Finset.univ hx hm) k) Q) := by
  unfold slcMid slcPost
  iintro ⟨Hf, Hl, Hout⟩ Hk
  iapply (load_oslc q hoff) $$ Hout
  iintro Hout
  iapply (store_oslc q (outv m ρ c) ((oblk_outv m ρ c q).trans hw) hoff) $$ Hout
  iintro Hout
  iapply Hk
  isplitl [Hf]; · iexact Hf
  isplitl [Hl] <;> iassumption

theorem off21_eq (c : Dev nD) : k0_off21 c = ![(diag c).val, 128 * 0, 0] := by revert c; decide
theorem off23_eq (c : Dev nD) : k0_off23 c = ![(diag c).val, 128 * 1, 0] := by revert c; decide
theorem off25_eq (c : Dev nD) : k0_off25 c = ![(diag c).val, 128 * 2, 0] := by revert c; decide
theorem off27_eq (c : Dev nD) : k0_off27 c = ![(diag c).val, 128 * 3, 0] := by revert c; decide
theorem off29_eq (c : Dev nD) : k0_off29 c = ![(diag c).val, 128 * 4, 0] := by revert c; decide
theorem off31_eq (c : Dev nD) : k0_off31 c = ![(diag c).val, 128 * 5, 0] := by revert c; decide
theorem off33_eq (c : Dev nD) : k0_off33 c = ![(diag c).val, 128 * 6, 0] := by revert c; decide
theorem off35_eq (c : Dev nD) : k0_off35 c = ![(diag c).val, 128 * 7, 0] := by revert c; decide

/-! ## The parts that deal with the slices -/

/-- Slice 0, and the coming of slice 1. -/
theorem eleventh_part {c : Dev nD} {v35 : BitVec 32} {Q : _ → sProp 𝕄} :
    iprop(records m ρ K ∗ due c 0 ∗ gRegion m ρ c 1 (diag c) ∗ slcPre m ρ c 0 ∗ slcPre m ρ c 1)
      ⊢ iprop((iprop(due c 0 ∗ gRegion m ρ c 1 (diag c) ∗ slcPost m ρ c 0 ∗ slcMid m ρ c 1) -∗ Q ⟨k0_pay9 (oblk (acc2 m ρ c) 1), k0_pay10 (lslc m ρ c (diag c) 1)⟩)
        -∗ WP c (k0_part11 mX hX mW hW mO hO mB hB mL hL mG hG cc0_scratch3 cc0_scratch4 cc0_scratch5 cc0_scratch6 cc0_scratch7 c v35) Q) := by
  rw [k0_part11_eq_skeleton]; unfold k0_part11_skel
  simp only [Prog.lift, Prog.bind_op, Prog.bind_ret, Prog.pure_eq_ret]
  iintro ⟨#Hr, HO, Hg, Hs0, Hs1⟩ Hk
  iapply (slice_comes m ρ K (c := c) 0 rfl rfl rfl (off21_eq c)) $$ [HO Hs0]
  · isplitr; · iexact Hr
    isplitl [HO] <;> iassumption
  iintro ⟨HO, Hs0⟩
  iapply (load_slot m ρ 1 (diag c) rfl) $$ Hg
  iintro Hg
  iapply (slice_done m ρ (c := c) 0 rfl rfl) $$ Hs0
  iintro Hs0
  iapply (slice_comes m ρ K (c := c) 1 rfl rfl rfl (off23_eq c)) $$ [HO Hs1]
  · isplitr; · iexact Hr
    isplitl [HO] <;> iassumption
  iintro ⟨HO, Hs1⟩
  iapply wp_done
  iapply Hk
  isplitl [HO]; · iexact HO
  isplitl [Hg]; · iexact Hg
  isplitl [Hs0] <;> iassumption

/-- The rest of slice 1, and the coming of slice 2. -/
theorem twelfth_part {c : Dev nD} {v35 : BitVec 32} {Q : _ → sProp 𝕄} :
    iprop(records m ρ K ∗ due c 0 ∗ gRegion m ρ c 1 (diag c) ∗ slcMid m ρ c 1 ∗ slcPre m ρ c 2)
      ⊢ iprop((iprop(due c 0 ∗ gRegion m ρ c 1 (diag c) ∗ slcPost m ρ c 1 ∗ slcMid m ρ c 2) -∗ Q ⟨k0_pay12 (oblk (acc2 m ρ c) 2) (lslc m ρ c (diag c) 2) (wblk m ρ c (diag c)), Scalar.ofBits .f32 0x00000000#32⟩)
        -∗ WP c (k0_part12 mX hX mW hW mO hO mB hB mL hL mG hG cc0_scratch3 cc0_scratch4 cc0_scratch5 cc0_scratch6 cc0_scratch7 c v35 (k0_pay9 (oblk (acc2 m ρ c) 1)) (k0_pay10 (lslc m ρ c (diag c) 1))) Q) := by
  rw [k0_part12_eq_skeleton]; unfold k0_part12_skel
  simp only [Prog.lift, Prog.bind_op, Prog.bind_ret, Prog.pure_eq_ret]
  iintro ⟨#Hr, HO, Hg, Hs1, Hs2⟩ Hk
  iapply (load_slot m ρ 1 (diag c) rfl) $$ Hg
  iintro Hg
  iapply (slice_done m ρ (c := c) 1 rfl rfl) $$ Hs1
  iintro Hs1
  iapply (slice_comes m ρ K (c := c) 2 rfl rfl rfl (off25_eq c)) $$ [HO Hs2]
  · isplitr; · iexact Hr
    isplitl [HO] <;> iassumption
  iintro ⟨HO, Hs2⟩
  iapply (load_slot m ρ 1 (diag c) rfl) $$ Hg
  iintro Hg
  iapply wp_done
  iapply Hk
  isplitl [HO]; · iexact HO
  isplitl [Hg]; · iexact Hg
  isplitl [Hs1] <;> iassumption

/-- The rest of slice 2, and the coming of slice 3. -/
theorem thirteenth_part {c : Dev nD} {v35 : BitVec 32} {Q : _ → sProp 𝕄} :
    iprop(records m ρ K ∗ due c 0 ∗ gRegion m ρ c 1 (diag c) ∗ slcMid m ρ c 2 ∗ slcPre m ρ c 3)
      ⊢ iprop((iprop(due c 0 ∗ gRegion m ρ c 1 (diag c) ∗ slcPost m ρ c 2 ∗ slcMid m ρ c 3) -∗ Q (k0_pay14 (oblk (acc2 m ρ c) 3) (lslc m ρ c (diag c) 3) (wblk m ρ c (diag c))))
        -∗ WP c (k0_part13 mX hX mW hW mO hO mB hB mL hL mG hG cc0_scratch3 cc0_scratch4 cc0_scratch5 cc0_scratch6 cc0_scratch7 c v35 (k0_pay12 (oblk (acc2 m ρ c) 2) (lslc m ρ c (diag c) 2) (wblk m ρ c (diag c))) (Scalar.ofBits .f32 0x00000000#32)) Q) := by
  rw [k0_part13_eq_skeleton]; unfold k0_part13_skel
  simp only [Prog.lift, Prog.bind_op, Prog.bind_ret, Prog.pure_eq_ret]
  iintro ⟨#Hr, HO, Hg, Hs2, Hs3⟩ Hk
  iapply (slice_done m ρ (c := c) 2 rfl rfl) $$ Hs2
  iintro Hs2
  iapply (slice_comes m ρ K (c := c) 3 rfl rfl rfl (off27_eq c)) $$ [HO Hs3]
  · isplitr; · iexact Hr
    isplitl [HO] <;> iassumption
  iintro ⟨HO, Hs3⟩
  iapply (load_slot m ρ 1 (diag c) rfl) $$ Hg
  iintro Hg
  iapply wp_done
  iapply Hk
  isplitl [HO]; · iexact HO
  isplitl [Hg]; · iexact Hg
  isplitl [Hs2] <;> iassumption

/-- The rest of slice 3, and slice 4. -/
theorem fourteenth_part {c : Dev nD} {v35 : BitVec 32} {Q : _ → sProp 𝕄} :
    iprop(records m ρ K ∗ due c 0 ∗ gRegion m ρ c 1 (diag c) ∗ slcMid m ρ c 3 ∗ slcPre m ρ c 4)
      ⊢ iprop((iprop(due c 0 ∗ gRegion m ρ c 1 (diag c) ∗ slcPost m ρ c 3 ∗ slcPost m ρ c 4) -∗ Q ⟨⟩)
        -∗ WP c (k0_part14 mX hX mW hW mO hO mB hB mL hL mG hG cc0_scratch3 cc0_scratch4 cc0_scratch5 cc0_scratch6 cc0_scratch7 c v35 (k0_pay14 (oblk (acc2 m ρ c) 3) (lslc m ρ c (diag c) 3) (wblk m ρ c (diag c)))) Q) := by
  rw [k0_part14_eq_skeleton]; unfold k0_part14_skel
  simp only [Prog.lift, Prog.bind_op, Prog.bind_ret, Prog.pure_eq_ret]
  iintro ⟨#Hr, HO, Hg, Hs3, Hs4⟩ Hk
  iapply (slice_done m ρ (c := c) 3 rfl rfl) $$ Hs3
  iintro Hs3
  iapply (slice_comes m ρ K (c := c) 4 rfl rfl rfl (off29_eq c)) $$ [HO Hs4]
  · isplitr; · iexact Hr
    isplitl [HO] <;> iassumption
  iintro ⟨HO, Hs4⟩
  iapply (load_slot m ρ 1 (diag c) rfl) $$ Hg
  iintro Hg
  iapply (slice_done m ρ (c := c) 4 rfl rfl) $$ Hs4
  iintro Hs4
  iapply wp_done
  iapply Hk
  isplitl [HO]; · iexact HO
  isplitl [Hg]; · iexact Hg
  isplitl [Hs3] <;> iassumption

/-- Slice 5. -/
theorem fifteenth_part {c : Dev nD} {v35 : BitVec 32} {Q : _ → sProp 𝕄} :
    iprop(records m ρ K ∗ due c 0 ∗ gRegion m ρ c 1 (diag c) ∗ slcPre m ρ c 5)
      ⊢ iprop((iprop(due c 0 ∗ gRegion m ρ c 1 (diag c) ∗ slcPost m ρ c 5) -∗ Q ⟨⟩)
        -∗ WP c (k0_part15 mX hX mW hW mO hO mB hB mL hL mG hG cc0_scratch3 cc0_scratch4 cc0_scratch5 cc0_scratch6 cc0_scratch7 c v35) Q) := by
  rw [k0_part15_eq_skeleton]; unfold k0_part15_skel
  simp only [Prog.lift, Prog.bind_op, Prog.bind_ret, Prog.pure_eq_ret]
  iintro ⟨#Hr, HO, Hg, Hs5⟩ Hk
  iapply (slice_comes m ρ K (c := c) 5 rfl rfl rfl (off31_eq c)) $$ [HO Hs5]
  · isplitr; · iexact Hr
    isplitl [HO] <;> iassumption
  iintro ⟨HO, Hs5⟩
  iapply (load_slot m ρ 1 (diag c) rfl) $$ Hg
  iintro Hg
  iapply (slice_done m ρ (c := c) 5 rfl rfl) $$ Hs5
  iintro Hs5
  iapply wp_done
  iapply Hk
  isplitl [HO]; · iexact HO
  isplitl [Hg]; · iexact Hg
  iexact Hs5

/-- Slice 6, and the coming of slice 7. -/
theorem sixteenth_part {c : Dev nD} {v35 : BitVec 32} {Q : _ → sProp 𝕄} :
    iprop(records m ρ K ∗ due c 0 ∗ gRegion m ρ c 1 (diag c) ∗ slcPre m ρ c 6 ∗ slcPre m ρ c 7)
      ⊢ iprop((iprop(due c 0 ∗ gRegion m ρ c 1 (diag c) ∗ slcPost m ρ c 6 ∗ slcMid m ρ c 7) -∗ Q ⟨k0_pay18 (oblk (acc2 m ρ c) 7), k0_pay19 (lslc m ρ c (diag c) 7)⟩)
        -∗ WP c (k0_part16 mX hX mW hW mO hO mB hB mL hL mG hG cc0_scratch3 cc0_scratch4 cc0_scratch5 cc0_scratch6 cc0_scratch7 c v35) Q) := by
  rw [k0_part16_eq_skeleton]; unfold k0_part16_skel
  simp only [Prog.lift, Prog.bind_op, Prog.bind_ret, Prog.pure_eq_ret]
  iintro ⟨#Hr, HO, Hg, Hs6, Hs7⟩ Hk
  iapply (slice_comes m ρ K (c := c) 6 rfl rfl rfl (off33_eq c)) $$ [HO Hs6]
  · isplitr; · iexact Hr
    isplitl [HO] <;> iassumption
  iintro ⟨HO, Hs6⟩
  iapply (load_slot m ρ 1 (diag c) rfl) $$ Hg
  iintro Hg
  iapply (slice_done m ρ (c := c) 6 rfl rfl) $$ Hs6
  iintro Hs6
  iapply (slice_comes m ρ K (c := c) 7 rfl rfl rfl (off35_eq c)) $$ [HO Hs7]
  · isplitr; · iexact Hr
    isplitl [HO] <;> iassumption
  iintro ⟨HO, Hs7⟩
  iapply wp_done
  iapply Hk
  isplitl [HO]; · iexact HO
  isplitl [Hg]; · iexact Hg
  isplitl [Hs6] <;> iassumption

/-! ## The sends are through -/

/-- Before a send's own wait, -/
def sentPre (c : Dev nD) (j : Fin 10) : sProp 𝕄 := iprop(pos c (sendK j) 0 ∗ crd c (sendK j) (NR (sentN j.val)))
/-- and after it: the rows are the device's again. -/
def sentPost (c : Dev nD) (j : Fin 10) : sProp 𝕄 := iprop(fin c (sendK j) ∗ xRegion m ρ c (sentLo c j.val) (sentN j.val) (sent_le c _ j.isLt))

theorem amount_sent (j : Fin 10) : amountN (1 + j.val) = NR (sentN j.val) := by
  unfold sentN
  split_ifs with h
  · exact amount_sent_block j h
  · exact amount_sent_slice j (by omega)

theorem wait_sent {c : Dev nD} (j : Fin 10) {sem : DmaSem sig} (hs : SemLoc.dma sem = csem (sendK j))
    {sp sp' : Space} {s₁ s' : Shape} {e e' : EltTy} {src : Memref sig .tc sp' s' e'} {dst : Memref sig .tc sp s₁ e}
    {hsrc : src.view.WordExact} {hdst : dst.view.WordExact} (hN : dst.view.dmaCredit = NR (sentN j.val))
    {α : Type} {k' : PUnit → Prog (TpuEff nD τ sig (Elt F) Λ₀ .tc) α} {Q : α → sProp 𝕄} :
    iprop(records m ρ K ∗ due c 0 ∗ sentPre c j)
      ⊢ iprop((iprop(due c 0 ∗ sentPost m ρ c j) -∗ WP c (k' ⟨⟩) Q)
          -∗ WP c (.op (.waitDma2 sem src dst hsrc hdst) k') Q) := by
  unfold sentPre sentPost
  rw [← payload_sent]
  exact wait_last m ρ K (sendK j) 0 (duties_sent c j) (fun r' h => duties_later m ρ c (sendK j) (by have := j.isLt; dsimp only; omega) r' h)
    hs (NR (sentN j.val)) hN (amount_sent j)

/-- The rest of slice 7, and the first three sends. -/
theorem seventeenth_part {c : Dev nD} {Q : _ → sProp 𝕄} :
    iprop(records m ρ K ∗ due c 0 ∗ gRegion m ρ c 1 (diag c) ∗ slcMid m ρ c 7 ∗ sentPre c 0 ∗ sentPre c 1 ∗ sentPre c 2)
      ⊢ iprop((iprop(due c 0 ∗ gRegion m ρ c 1 (diag c) ∗ slcPost m ρ c 7 ∗ sentPost m ρ c 0 ∗ sentPost m ρ c 1 ∗ sentPost m ρ c 2) -∗ Q ⟨⟩)
        -∗ WP c (k0_part17 mX hX mW hW mO hO mB hB mL hL mG hG cc0_scratch3 cc0_scratch4 cc0_scratch5 cc0_scratch6 cc0_scratch7 c (k0_pay18 (oblk (acc2 m ρ c) 7)) (k0_pay19 (lslc m ρ c (diag c) 7))) Q) := by
  rw [k0_part17_eq_skeleton]; unfold k0_part17_skel
  simp only [Prog.lift, Prog.bind_op, Prog.bind_ret, Prog.pure_eq_ret]
  iintro ⟨#Hr, HO, Hg, Hs7, Ht0, Ht1, Ht2⟩ Hk
  iapply (load_slot m ρ 1 (diag c) rfl) $$ Hg
  iintro Hg
  iapply (slice_done m ρ (c := c) 7 rfl rfl) $$ Hs7
  iintro Hs7
  iapply (wait_sent m ρ K (c := c) 0 rfl rfl) $$ [HO Ht0]
  · isplitr; · iexact Hr
    isplitl [HO] <;> iassumption
  iintro ⟨HO, Ht0⟩
  iapply (wait_sent m ρ K (c := c) 1 rfl rfl) $$ [HO Ht1]
  · isplitr; · iexact Hr
    isplitl [HO] <;> iassumption
  iintro ⟨HO, Ht1⟩
  iapply (wait_sent m ρ K (c := c) 2 rfl rfl) $$ [HO Ht2]
  · isplitr; · iexact Hr
    isplitl [HO] <;> iassumption
  iintro ⟨HO, Ht2⟩
  iapply wp_done
  iapply Hk
  isplitl [HO]; · iexact HO
  isplitl [Hg]; · iexact Hg
  isplitl [Hs7]; · iexact Hs7
  isplitl [Ht0]; · iexact Ht0
  isplitl [Ht1] <;> iassumption

/-- The next five. -/
theorem eighteenth_part {c : Dev nD} {Q : _ → sProp 𝕄} :
    iprop(records m ρ K ∗ due c 0 ∗ sentPre c 3 ∗ sentPre c 4 ∗ sentPre c 5 ∗ sentPre c 6 ∗ sentPre c 7)
      ⊢ iprop((iprop(due c 0 ∗ sentPost m ρ c 3 ∗ sentPost m ρ c 4 ∗ sentPost m ρ c 5 ∗ sentPost m ρ c 6 ∗ sentPost m ρ c 7) -∗ Q ⟨⟩)
        -∗ WP c (k0_part18 mX hX mW hW mO hO mB hB mL hL mG hG cc0_scratch3 cc0_scratch4 cc0_scratch5 cc0_scratch6 cc0_scratch7 c) Q) := by
  rw [k0_part18_eq_skeleton]; unfold k0_part18_skel
  simp only [Prog.lift, Prog.bind_op, Prog.bind_ret, Prog.pure_eq_ret]
  iintro ⟨#Hr, HO, Ht3, Ht4, Ht5, Ht6, Ht7⟩ Hk
  iapply (wait_sent m ρ K (c := c) 3 rfl rfl) $$ [HO Ht3]
  · isplitr; · iexact Hr
    isplitl [HO] <;> iassumption
  iintro ⟨HO, Ht3⟩
  iapply (wait_sent m ρ K (c := c) 4 rfl rfl) $$ [HO Ht4]
  · isplitr; · iexact Hr
    isplitl [HO] <;> iassumption
  iintro ⟨HO, Ht4⟩
  iapply (wait_sent m ρ K (c := c) 5 rfl rfl) $$ [HO Ht5]
  · isplitr; · iexact Hr
    isplitl [HO] <;> iassumption
  iintro ⟨HO, Ht5⟩
  iapply (wait_sent m ρ K (c := c) 6 rfl rfl) $$ [HO Ht6]
  · isplitr; · iexact Hr
    isplitl [HO] <;> iassumption
  iintro ⟨HO, Ht6⟩
  iapply (wait_sent m ρ K (c := c) 7 rfl rfl) $$ [HO Ht7]
  · isplitr; · iexact Hr
    isplitl [HO] <;> iassumption
  iintro ⟨HO, Ht7⟩
  iapply wp_done
  iapply Hk
  isplitl [HO]; · iexact HO
  isplitl [Ht3]; · iexact Ht3
  isplitl [Ht4]; · iexact Ht4
  isplitl [Ht5]; · iexact Ht5
  isplitl [Ht6] <;> iassumption

end Cert.KernelIdeal.Mesh

end
-- ==== Proof.KernelIdeal.Parts.lean ====
/-
# Cells by kind

The cells of a device as the barrier's, the landings', the copies', the sends' and the slices'; and what the parts of the
body ask and give of the sends and of the slices, all of them together.
-/
module

public import proofs.«01_k».proof.Proof.KernelIdeal.Closing

@[expose] public section

noncomputable section

namespace Cert.KernelIdeal.Mesh

open Cert.KernelIdeal Cert.KernelIdeal.Gen Cert.Blocks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells of a device, by kind -/

theorem sep_ten (Φ : Fin 10 → sProp 𝕄) : bigSep Finset.univ Φ = iprop(Φ 0 ∗ Φ 1 ∗ Φ 2 ∗ Φ 3 ∗ Φ 4 ∗ Φ 5 ∗ Φ 6 ∗ Φ 7 ∗ Φ 8 ∗ Φ 9) :=
  (bigSep_eq_bigSepL_of_eq (S := (Finset.univ : Finset (Fin 10))) [0, 1, 2, 3, 4, 5, 6, 7, 8, 9] (by decide) (by decide) Φ).trans rfl

theorem cells_listed (c : Dev nD) :
    (Finset.univ : Finset (Fin 26)) = List.toFinset [barK, recvK c, recvK (right c), recvK (left c), recvK (diag c), 23, copyK 0, copyK 1,
      sendK 0, sendK 1, sendK 2, sendK 3, sendK 4, sendK 5, sendK 6, sendK 7, sendK 8, sendK 9,
      sliceK 0, sliceK 1, sliceK 2, sliceK 3, sliceK 4, sliceK 5, sliceK 6, sliceK 7] := by revert c; decide

theorem cells_nodup (c : Dev nD) :
    [barK, recvK c, recvK (right c), recvK (left c), recvK (diag c), 23, copyK 0, copyK 1,
      sendK 0, sendK 1, sendK 2, sendK 3, sendK 4, sendK 5, sendK 6, sendK 7, sendK 8, sendK 9,
      sliceK 0, sliceK 1, sliceK 2, sliceK 3, sliceK 4, sliceK 5, sliceK 6, sliceK 7].Nodup := by revert c; decide

theorem sep_cells (c : Dev nD) (Φ : Fin 26 → sProp 𝕄) : bigSep Finset.univ Φ =
    iprop(Φ barK ∗ Φ (recvK c) ∗ Φ (recvK (right c)) ∗ Φ (recvK (left c)) ∗ Φ (recvK (diag c)) ∗ Φ 23 ∗ Φ (copyK 0) ∗ Φ (copyK 1)
      ∗ Φ (sendK 0) ∗ Φ (sendK 1) ∗ Φ (sendK 2) ∗ Φ (sendK 3) ∗ Φ (sendK 4) ∗ Φ (sendK 5) ∗ Φ (sendK 6) ∗ Φ (sendK 7) ∗ Φ (sendK 8) ∗ Φ (sendK 9)
      ∗ Φ (sliceK 0) ∗ Φ (sliceK 1) ∗ Φ (sliceK 2) ∗ Φ (sliceK 3) ∗ Φ (sliceK 4) ∗ Φ (sliceK 5) ∗ Φ (sliceK 6) ∗ Φ (sliceK 7)) :=
  (bigSep_eq_bigSepL_of_eq (S := (Finset.univ : Finset (Fin 26))) _ (cells_listed c) (cells_nodup c) Φ).trans rfl

/-- The cells but the sends' and the slices' ones, -/
def fewCells (c : Dev nD) (Φ : Fin 26 → sProp 𝕄) : sProp 𝕄 :=
  iprop(Φ barK ∗ Φ (recvK c) ∗ Φ (recvK (right c)) ∗ Φ (recvK (left c)) ∗ Φ (recvK (diag c)) ∗ Φ 23 ∗ Φ (copyK 0) ∗ Φ (copyK 1))

/-- and all of them. -/
theorem cells_out (c : Dev nD) (Φ : Fin 26 → sProp 𝕄) :
    bigSep Finset.univ Φ ⊢ iprop(fewCells c Φ ∗ (bigSep Finset.univ fun j : Fin 10 => Φ (sendK j)) ∗ bigSep Finset.univ fun q : Fin 8 => Φ (sliceK q)) := by
  rw [sep_cells c, sep_ten, sep_eight]; unfold fewCells
  iintro ⟨H0, H1, H2, H3, H4, H5, H6, H7, S0, S1, S2, S3, S4, S5, S6, S7, S8, S9, Q⟩
  isplitl [H0 H1 H2 H3 H4 H5 H6 H7]
  · isplitl [H0]; · iexact H0
    isplitl [H1]; · iexact H1
    isplitl [H2]; · iexact H2
    isplitl [H3]; · iexact H3
    isplitl [H4]; · iexact H4
    isplitl [H5]; · iexact H5
    isplitl [H6] <;> iassumption
  isplitr [Q]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8] <;> iassumption
  iexact Q

theorem cells_in (c : Dev nD) (Φ : Fin 26 → sProp 𝕄) :
    iprop(fewCells c Φ ∗ (bigSep Finset.univ fun j : Fin 10 => Φ (sendK j)) ∗ bigSep Finset.univ fun q : Fin 8 => Φ (sliceK q)) ⊢ bigSep Finset.univ Φ := by
  rw [sep_cells c, sep_ten, sep_eight]; unfold fewCells
  iintro ⟨⟨H0, H1, H2, H3, H4, H5, H6, H7⟩, ⟨S0, S1, S2, S3, S4, S5, S6, S7, S8, S9⟩, Q⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [S0]; · iexact S0
  isplitl [S1]; · iexact S1
  isplitl [S2]; · iexact S2
  isplitl [S3]; · iexact S3
  isplitl [S4]; · iexact S4
  isplitl [S5]; · iexact S5
  isplitl [S6]; · iexact S6
  isplitl [S7]; · iexact S7
  isplitl [S8]; · iexact S8
  isplitl [S9] <;> iassumption

/-! ## The slices and the sends together -/

theorem slices_pre (c : Dev nD) :
    iprop((bigSep Finset.univ fun q : Fin 8 => pos c (sliceK q) 0) ∗ (bigSep Finset.univ fun q : Fin 8 => crd c (sliceK q) (NR 128)) ∗ oAll c (acc2 m ρ c))
      ⊢ iprop(slcPre m ρ c 0 ∗ slcPre m ρ c 1 ∗ slcPre m ρ c 2 ∗ slcPre m ρ c 3 ∗ slcPre m ρ c 4 ∗ slcPre m ρ c 5 ∗ slcPre m ρ c 6 ∗ slcPre m ρ c 7) := by
  rw [out_cut, ← bigSep_sep', ← bigSep_sep', ← sep_eight (fun q => slcPre m ρ c q)]
  have h : ∀ q : Fin 8, (iprop(pos c (sliceK q) 0 ∗ crd c (sliceK q) (NR 128) ∗ oSlc c q (acc2 m ρ c)) : sProp 𝕄) ⊢ slcPre m ρ c q := fun q =>
    BI.Entails.refl _
  exact bigSep_mono fun q _ => h q

theorem slices_post (c : Dev nD) :
    iprop(slcPost m ρ c 0 ∗ slcPost m ρ c 1 ∗ slcPost m ρ c 2 ∗ slcPost m ρ c 3 ∗ slcPost m ρ c 4 ∗ slcPost m ρ c 5 ∗ slcPost m ρ c 6 ∗ slcPost m ρ c 7)
      ⊢ iprop((bigSep Finset.univ fun q : Fin 8 => fin c (sliceK q)) ∗ (bigSep Finset.univ fun q : Fin 8 => lRegion m ρ c (diag c) (128 * q.val) 128 (slice_le q))
          ∗ oAll c (outv m ρ c)) := by
  rw [out_cut, ← bigSep_sep', ← bigSep_sep', ← sep_eight (fun q => slcPost m ρ c q)]
  have h : ∀ q : Fin 8, slcPost m ρ c q ⊢ (iprop(fin c (sliceK q) ∗ lRegion m ρ c (diag c) (128 * q.val) 128 (slice_le q) ∗ oSlc c q (outv m ρ c)) : sProp 𝕄) := fun q =>
    BI.Entails.refl _
  exact bigSep_mono fun q _ => h q

/-- The credit of a send. -/
def sentCrd (c : Dev nD) (j : Fin 10) : sProp 𝕄 := crd c (sendK j) (NR (sentN j.val))

theorem sends_pre (c : Dev nD) :
    iprop((bigSep Finset.univ fun j : Fin 10 => pos c (sendK j) 0) ∗ (crd c (sendK 0) (NR 1024) ∗ crd c (sendK 1) (NR 1024) ∗ crd c (sendK 2) (NR 128)
        ∗ crd c (sendK 3) (NR 128) ∗ crd c (sendK 4) (NR 128) ∗ crd c (sendK 5) (NR 128) ∗ crd c (sendK 6) (NR 128) ∗ crd c (sendK 7) (NR 128)
        ∗ crd c (sendK 8) (NR 128) ∗ crd c (sendK 9) (NR 128)))
      ⊢ iprop(sentPre c 0 ∗ sentPre c 1 ∗ sentPre c 2 ∗ sentPre c 3 ∗ sentPre c 4 ∗ sentPre c 5 ∗ sentPre c 6 ∗ sentPre c 7 ∗ sentPre c 8 ∗ sentPre (F := F) c 9) := by
  have e : (iprop(crd c (sendK 0) (NR 1024) ∗ crd c (sendK 1) (NR 1024) ∗ crd c (sendK 2) (NR 128)
        ∗ crd c (sendK 3) (NR 128) ∗ crd c (sendK 4) (NR 128) ∗ crd c (sendK 5) (NR 128) ∗ crd c (sendK 6) (NR 128) ∗ crd c (sendK 7) (NR 128)
        ∗ crd c (sendK 8) (NR 128) ∗ crd c (sendK 9) (NR 128)) : sProp 𝕄) = bigSep Finset.univ fun j : Fin 10 => sentCrd c j := by
    rw [sep_ten]; rfl
  rw [e, ← bigSep_sep', ← sep_ten (fun j => sentPre (F := F) c j)]
  have h : ∀ j : Fin 10, (iprop(pos c (sendK j) 0 ∗ sentCrd c j) : sProp 𝕄) ⊢ sentPre c j := fun j => BI.Entails.refl _
  exact bigSep_mono fun j _ => h j

theorem sends_post (c : Dev nD) :
    iprop(sentPost m ρ c 0 ∗ sentPost m ρ c 1 ∗ sentPost m ρ c 2 ∗ sentPost m ρ c 3 ∗ sentPost m ρ c 4 ∗ sentPost m ρ c 5 ∗ sentPost m ρ c 6 ∗ sentPost m ρ c 7
        ∗ sentPost m ρ c 8 ∗ sentPost m ρ c 9)
      ⊢ iprop((bigSep Finset.univ fun j : Fin 10 => fin c (sendK j)) ∗ xRegion m ρ c (1024 * (right c).val) 1024 (block_le' _)
          ∗ xRegion m ρ c (1024 * (left c).val) 1024 (block_le' _)
          ∗ bigSep Finset.univ fun q : Fin 8 => xRegion m ρ c (1024 * (diag c).val + 128 * q.val) 128 (slice_le' c q)) := by
  rw [← sep_ten (fun j => sentPost m ρ c j)]
  have h : ∀ j : Fin 10, sentPost m ρ c j ⊢ (iprop(fin c (sendK j) ∗ xRegion m ρ c (sentLo c j.val) (sentN j.val) (sent_le c _ j.isLt)) : sProp 𝕄) := fun j =>
    BI.Entails.refl _
  refine (bigSep_mono fun j _ => h j).trans ?_
  rw [bigSep_sep', sep_ten (fun j : Fin 10 => xRegion m ρ c (sentLo c j.val) (sentN j.val) (sent_le c _ j.isLt)), sep_eight]
  exact BI.Entails.refl _

end Cert.KernelIdeal.Mesh

end
-- ==== Proof.KernelIdeal.Body.lean ====
/-
# The whole body

From every cell at its start, the tokens and credits a device is dealt, its staged block and free buffers, the body runs
to its output block filled in and every cell spent.
-/
module

public import proofs.«01_k».proof.Proof.KernelIdeal.Parts

@[expose] public section

noncomputable section

namespace Cert.KernelIdeal.Mesh

open Cert.KernelIdeal Cert.KernelIdeal.Gen Cert.Blocks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-- The tokens a device is dealt: of the barriers of the three others, of the landings at its neighbours, of its sends,
of the slices' landings across and of its copies of `w`. -/
def toksIn (c : Dev nD) : sProp 𝕄 :=
  iprop(tok (right c) barK 0 c ∗ tok (diag c) barK 0 c ∗ tok (left c) barK 0 c ∗ tok (right c) (recvK c) 0 0 ∗ tok (left c) (recvK c) 0 0
    ∗ tok c (sendK 0) 0 0 ∗ tok c (sendK 1) 0 0 ∗ (bigSep Finset.univ fun q : Fin 8 => tok c (sendK (sendQ q)) 0 0)
    ∗ (bigSep Finset.univ fun q : Fin 8 => tok (diag c) (sliceK q) 0 0)
    ∗ tok c (copyK 0) 0 0 ∗ tok c (copyK 0) 1 0 ∗ tok c (copyK 1) 0 0 ∗ tok c (copyK 1) 1 0)

/-- The credits a device is dealt: of what the others send to it. -/
def crdIn (c : Dev nD) : sProp 𝕄 :=
  iprop(crd c barK 3 ∗ crd c (recvK (right c)) (NR 1024) ∗ crd c (recvK (left c)) (NR 1024) ∗ bigSep Finset.univ fun q : Fin 8 => crd c (sliceK q) (NR 128))

/-- The scratch buffers, at any contents. -/
def scratch (c : Dev nD) : sProp 𝕄 :=
  iprop((∃ f, ((c : Thread nD τ).loc cc0_scratch0) ↦{fullShare} f) ∗ (∃ f, ((c : Thread nD τ).loc cc0_scratch1) ↦{fullShare} f)
    ∗ ∃ f, ((c : Thread nD τ).loc cc0_scratch2) ↦{fullShare} f)

/-- The device's copy of `w`. -/
def wAll (c : Dev nD) : sProp 𝕄 := ((c : Thread nD τ).loc main_arg1) ↦{fullShare} win m ρ c

theorem wp_seq {c : Dev nD} {α β : Type} {p : Prog (TpuEff nD τ sig (Elt F) Λ₀ .tc) α} {k : α → Prog (TpuEff nD τ sig (Elt F) Λ₀ .tc) β} {Q : β → sProp 𝕄} :
    WP c p (fun a => WP c (k a) Q) ⊢ WP c (p >>= k) Q := by
  unfold WP; rw [wp_bind]

variable (K : Dev nD × Fin 26 → ℕ)

/-- The cells that nothing ever uses, and so all of them, are closed. -/
theorem close_rest {c : Dev nD} :
    iprop(records m ρ K ∗ pos c (recvK c) 0 ∗ pos c (recvK (diag c)) 0 ∗ pos c 23 0)
      ⊢ iprop(|={Set.univ}=> (fin c (recvK c) ∗ fin c (recvK (diag c)) ∗ fin c 23)) := by
  have h1 : ∀ c r, dutiesN c (recvK c).val r = ∅ := by
    intro c r; unfold dutiesN; have : c.val ≠ (right c).val ∧ c.val ≠ (left c).val := by revert c; decide
    have hc := c.isLt; change c.val < 4 at hc
    simp only [recvK]; rw [if_neg (by omega), if_neg (by omega), if_pos (by omega), if_neg (by omega)]
  have h2 : ∀ c r, dutiesN c (recvK (diag c)).val r = ∅ := by
    intro c r; unfold dutiesN; have : (diag c).val ≠ (right c).val ∧ (diag c).val ≠ (left c).val := by revert c; decide
    have hc := (diag c).isLt; change (diag c).val < 4 at hc
    simp only [recvK]; rw [if_neg (by omega), if_neg (by omega), if_pos (by omega), if_neg (by omega)]
  have h3 : ∀ c r, dutiesN c (23 : Fin 26).val r = ∅ := fun c r => rfl
  iintro ⟨#Hr, H1, H2, H3⟩
  imod (close_unused m ρ K (c := c) (recvK c) (h1 c)) $$ [H1] with H1
  · isplitr; · iexact Hr
    iexact H1
  imod (close_unused m ρ K (c := c) (recvK (diag c)) (h2 c)) $$ [H2] with H2
  · isplitr; · iexact Hr
    iexact H2
  imod (close_unused m ρ K (c := c) 23 (h3 c)) $$ [H3] with H3
  · isplitr; · iexact Hr
    iexact H3
  imodintro
  isplitl [H1]; · iexact H1
  isplitl [H2] <;> iassumption

set_option maxHeartbeats 4000000 in
set_option maxRecDepth 8000 in
theorem body_runs {c : Dev nD} {f : S1024x2048.Idx → Elt F .f32} :
    iprop(records m ρ K ∗ levAts L lv ∗ due c (O₀ c) ∗ (bigSep Finset.univ fun k : Fin 26 => pos c k 0) ∗ toksIn c ∗ crdIn c
        ∗ xStage m ρ c ∗ oAll c f ∗ scratch c ∗ wAll m ρ c)
      ⊢ WP c (cc0_body mX (Memref.isWhole_whole _) mW (Memref.isWhole_whole _) mO (Memref.isWhole_whole _) mB (Memref.isWhole_whole _) mL (Memref.isWhole_whole _) mG (Memref.isWhole_whole _)
            cc0_scratch3 cc0_scratch4 cc0_scratch5 cc0_scratch6 cc0_scratch7)
          fun _ => iprop(due c 0 ∗ (bigSep Finset.univ fun k : Fin 26 => fin c k) ∗ xStage m ρ c ∗ oAll c (outv m ρ c) ∗ scratch c ∗ wAll m ρ c) := by
  rw [cc0_body_eq_skeleton]; unfold cc0_body_skel toksIn crdIn scratch wAll
  iintro ⟨#Hr, #Hlev, HO, Hpos, ⟨Tb1, Tb2, Tb3, Tr1, Tr2, Ts0, Ts1, Tsq, Tq, T00, T01, T10, T11⟩, ⟨Cb, Cr1, Cr2, Cq⟩, HX, HOut, ⟨HB, HL, HG⟩, HW⟩
  ihave Hpos := (cells_out c _) $$ Hpos
  unfold fewCells
  icases Hpos with ⟨⟨Pb, Pm, P1, P2, Pd, Pu, Pc0, Pc1⟩, Ps, Pq⟩
  ihave HB := (xFree_four c) $$ HB
  icases HB with ⟨B0, B1, B2, B3⟩
  ihave HL := (lFree_four c) $$ HL
  icases HL with ⟨L0, L1, L2, L3⟩
  ihave HG := (gFree_two c) $$ HG
  icases HG with ⟨G0, G1⟩
  ihave HW := (ent_of_eq (w_four m ρ c)) $$ HW
  icases HW with ⟨W0, W1, W2, W3⟩
  iapply wp_seq
  iapply first_part
  iintro %v2 %v13 %v24 %v35
  try dsimp only
  iapply wp_seq
  iapply (second_part m ρ K (c := c)) $$ [HO Tb1 L1 Tb2 L3]
  · isplitr; · iexact Hr
    isplitl [HO]; · iexact HO
    isplitl [Tb1]; · iexact Tb1
    isplitl [L1]; · iexact L1
    isplitl [Tb2] <;> iassumption
  iintro %v65 %v66 %v67 %v0 HO
  try dsimp only
  iapply wp_seq
  iapply (third_part m ρ K (c := c)) $$ [HO Tb3 L2 Pb Cb W0 G0 T00 W1 G1 T10 HX B1]
  · isplitr; · iexact Hr
    isplitr; · iexact Hlev
    isplitl [HO]; · iexact HO
    isplitl [Tb3]; · iexact Tb3
    isplitl [L2]; · iexact L2
    isplitl [Pb]; · iexact Pb
    isplitl [Cb]; · iexact Cb
    isplitl [W0]; · iexact W0
    isplitl [G0]; · iexact G0
    isplitl [T00]; · iexact T00
    isplitl [W1]; · iexact W1
    isplitl [G1]; · iexact G1
    isplitl [T10]; · iexact T10
    isplitl [HX] <;> iassumption
  iintro ⟨HO, Fb, L1, L3, L2, C0, C1, HX, B1⟩
  iapply wp_seq
  iapply (fourth_part m ρ K (c := c)) $$ [HO B1 L1 Ts0 Tr1 HX B2 L2 Ts1 Tr2 B3]
  · isplitr; · iexact Hr
    isplitl [HO]; · iexact HO
    isplitl [B1]; · iexact B1
    isplitl [L1]; · iexact L1
    isplitl [Ts0]; · iexact Ts0
    isplitl [Tr1]; · iexact Tr1
    isplitl [HX]; · iexact HX
    isplitl [B2]; · iexact B2
    isplitl [L2]; · iexact L2
    isplitl [Ts1]; · iexact Ts1
    isplitl [Tr2] <;> iassumption
  iintro %v135 ⟨HO, S0, S1, HX, B3⟩
  try dsimp only
  iapply wp_seq
  iapply (fifth_part m ρ K (c := c)) $$ [HO B3 L3 Tsq Tq]
  · isplitr; · iexact Hr
    isplitl [HO]; · iexact HO
    isplitl [B3]; · iexact B3
    isplitl [L3]; · iexact L3
    isplitl [Tsq] <;> iassumption
  iintro ⟨HO, S2, S3, I2, I3, I4, I5, I6, I7⟩
  iapply wp_seq
  iapply (sixth_part m ρ K (c := c)) $$ [HO I2 I3 I4]
  · isplitr; · iexact Hr
    isplitl [HO]; · iexact HO
    isplitl [I2]; · iexact I2
    isplitl [I3] <;> iassumption
  iintro ⟨HO, S4, S5, S6⟩
  iapply wp_seq
  iapply (seventh_part m ρ K (c := c)) $$ [HO I5 I6 I7]
  · isplitr; · iexact Hr
    isplitl [HO]; · iexact HO
    isplitl [I5]; · iexact I5
    isplitl [I6] <;> iassumption
  iintro ⟨HO, S7, S8, S9⟩
  iapply wp_seq
  iapply (eighth_part m ρ K (c := c)) $$ [HO Pc0 C0 Pc1 C1 P1 Cr1 HX HOut]
  · isplitr; · iexact Hr
    isplitl [HO]; · iexact HO
    isplitl [Pc0]; · iexact Pc0
    isplitl [C0]; · iexact C0
    isplitl [Pc1]; · iexact Pc1
    isplitl [C1]; · iexact C1
    isplitl [P1]; · iexact P1
    isplitl [Cr1]; · iexact Cr1
    isplitl [HX] <;> iassumption
  iintro ⟨HO, Pc0, #R0, G0, W0, F1, L1, Pc1, #R1, G1, W1, HX, HOut⟩
  iapply wp_seq
  iapply (ninth_part m ρ K (c := c)) $$ [HO W2 G0 T01 Pc0 HOut L1 G1 P2 Cr2]
  · isplitr; · iexact Hr
    isplitl [HO]; · iexact HO
    isplitl [W2]; · iexact W2
    isplitl [G0]; · iapply (gRegion_free m ρ c 0 c); iexact G0
    isplitl [T01]; · iexact T01
    isplitr; · iexact R0
    isplitl [Pc0]; · iexact Pc0
    isplitl [HOut]; · iexact HOut
    isplitl [L1]; · iexact L1
    isplitl [G1]; · iexact G1
    isplitl [P2] <;> iassumption
  iintro ⟨HO, HOut, L1, G1, F2, L2, Fc0, G0, W2⟩
  iapply wp_seq
  iapply (tenth_part m ρ K (c := c)) $$ [HO W3 G1 T11 Pc1 HOut L2 G0]
  · isplitr; · iexact Hr
    isplitl [HO]; · iexact HO
    isplitl [W3]; · iexact W3
    isplitl [G1]; · iapply (gRegion_free m ρ c 1 (right c)); iexact G1
    isplitl [T11]; · iexact T11
    isplitr; · iexact R1
    isplitl [Pc1]; · iexact Pc1
    isplitl [HOut]; · iexact HOut
    isplitl [L2] <;> iassumption
  iintro ⟨HO, HOut, L2, G0, Fc1, G1, W3⟩
  ihave Hq := (slices_pre m ρ c) $$ [Pq Cq HOut]
  · isplitl [Pq]; · iexact Pq
    isplitl [Cq] <;> iassumption
  icases Hq with ⟨Q0, Q1, Q2, Q3, Q4, Q5, Q6, Q7⟩
  ihave Hs := (sends_pre c) $$ [Ps S0 S1 S2 S3 S4 S5 S6 S7 S8 S9]
  · isplitl [Ps]; · iexact Ps
    isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8] <;> iassumption
  icases Hs with ⟨S0, S1, S2, S3, S4, S5, S6, S7, S8, S9⟩
  iapply wp_seq
  iapply (eleventh_part m ρ K (c := c)) $$ [HO G1 Q0 Q1]
  · isplitr; · iexact Hr
    isplitl [HO]; · iexact HO
    isplitl [G1]; · iexact G1
    isplitl [Q0] <;> iassumption
  iintro ⟨HO, G1, Q0, Q1⟩
  try dsimp only
  iapply wp_seq
  iapply (twelfth_part m ρ K (c := c)) $$ [HO G1 Q1 Q2]
  · isplitr; · iexact Hr
    isplitl [HO]; · iexact HO
    isplitl [G1]; · iexact G1
    isplitl [Q1] <;> iassumption
  iintro ⟨HO, G1, Q1, Q2⟩
  try dsimp only
  iapply wp_seq
  iapply (thirteenth_part m ρ K (c := c)) $$ [HO G1 Q2 Q3]
  · isplitr; · iexact Hr
    isplitl [HO]; · iexact HO
    isplitl [G1]; · iexact G1
    isplitl [Q2] <;> iassumption
  iintro ⟨HO, G1, Q2, Q3⟩
  iapply wp_seq
  iapply (fourteenth_part m ρ K (c := c)) $$ [HO G1 Q3 Q4]
  · isplitr; · iexact Hr
    isplitl [HO]; · iexact HO
    isplitl [G1]; · iexact G1
    isplitl [Q3] <;> iassumption
  iintro ⟨HO, G1, Q3, Q4⟩
  iapply wp_seq
  iapply (fifteenth_part m ρ K (c := c)) $$ [HO G1 Q5]
  · isplitr; · iexact Hr
    isplitl [HO]; · iexact HO
    isplitl [G1] <;> iassumption
  iintro ⟨HO, G1, Q5⟩
  iapply wp_seq
  iapply (sixteenth_part m ρ K (c := c)) $$ [HO G1 Q6 Q7]
  · isplitr; · iexact Hr
    isplitl [HO]; · iexact HO
    isplitl [G1]; · iexact G1
    isplitl [Q6] <;> iassumption
  iintro ⟨HO, G1, Q6, Q7⟩
  try dsimp only
  iapply wp_seq
  iapply (seventeenth_part m ρ K (c := c)) $$ [HO G1 Q7 S0 S1 S2]
  · isplitr; · iexact Hr
    isplitl [HO]; · iexact HO
    isplitl [G1]; · iexact G1
    isplitl [Q7]; · iexact Q7
    isplitl [S0]; · iexact S0
    isplitl [S1] <;> iassumption
  iintro ⟨HO, G1, Q7, S0, S1, S2⟩
  iapply wp_seq
  iapply (eighteenth_part m ρ K (c := c)) $$ [HO S3 S4 S5 S6 S7]
  · isplitr; · iexact Hr
    isplitl [HO]; · iexact HO
    isplitl [S3]; · iexact S3
    isplitl [S4]; · iexact S4
    isplitl [S5]; · iexact S5
    isplitl [S6] <;> iassumption
  iintro ⟨HO, S3, S4, S5, S6, S7⟩
  simp only [Prog.lift, Prog.bind_op, Prog.bind_ret, Prog.pure_eq_ret]
  iapply (wait_sent m ρ K (c := c) 8 rfl rfl) $$ [HO S8]
  · isplitr; · iexact Hr
    isplitl [HO] <;> iassumption
  iintro ⟨HO, S8⟩
  iapply (wait_sent m ρ K (c := c) 9 rfl rfl) $$ [HO S9]
  · isplitr; · iexact Hr
    isplitl [HO] <;> iassumption
  iintro ⟨HO, S9⟩
  ihave Hs := (sends_post m ρ c) $$ [S0 S1 S2 S3 S4 S5 S6 S7 S8 S9]
  · isplitl [S0]; · iexact S0
    isplitl [S1]; · iexact S1
    isplitl [S2]; · iexact S2
    isplitl [S3]; · iexact S3
    isplitl [S4]; · iexact S4
    isplitl [S5]; · iexact S5
    isplitl [S6]; · iexact S6
    isplitl [S7]; · iexact S7
    isplitl [S8] <;> iassumption
  icases Hs with ⟨Fs, B1, B2, B3⟩
  ihave Hq := (slices_post m ρ c) $$ [Q0 Q1 Q2 Q3 Q4 Q5 Q6 Q7]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6] <;> iassumption
  icases Hq with ⟨Fq, L3, HOut⟩
  imod (close_rest m ρ K (c := c)) $$ [Pm Pd Pu] with ⟨Fm, Fd, Fu⟩
  · isplitr; · iexact Hr
    isplitl [Pm]; · iexact Pm
    isplitl [Pd] <;> iassumption
  iapply wp_done
  isplitl [HO]; · iexact HO
  isplitl [Fs Fq Fm Fd Fu Fb F1 F2 Fc0 Fc1]
  · iapply (cells_in c fun k => fin c k)
    isplitr [Fs Fq]
    · unfold fewCells
      isplitl [Fb]; · iexact Fb
      isplitl [Fm]; · iexact Fm
      isplitl [F1]; · iexact F1
      isplitl [F2]; · iexact F2
      isplitl [Fd]; · iexact Fd
      isplitl [Fu]; · iexact Fu
      isplitl [Fc0] <;> iassumption
    isplitl [Fs] <;> iassumption
  isplitl [HX]; · iexact HX
  isplitl [HOut]; · iexact HOut
  isplitl [B0 B1 B2 B3 L0 L1 L2 L3 G0 G1]
  · isplitl [B0 B1 B2 B3]
    · iapply (x_whole m ρ c)
      isplitl [B0]; · iexact B0
      isplitl [B1]; · iexact B1
      isplitl [B2] <;> iassumption
    isplitl [L0 L1 L2 L3]
    · iapply (l_whole m ρ c)
      isplitl [L0]; · iexact L0
      isplitl [L1]; · iexact L1
      isplitl [L2] <;> iassumption
    iapply (g_whole m ρ c (left c) (diag c))
    isplitl [G0] <;> iassumption
  iapply (ent_of_eq (w_four m ρ c).symm)
  isplitl [W0]; · iexact W0
  isplitl [W1]; · iexact W1
  isplitl [W2] <;> iassumption

end Cert.KernelIdeal.Mesh

end
-- ==== Proof.KernelIdeal.Deal.lean ====
/-
# What the launch deals each device

The ghost state of all cells is allocated at once. A device is dealt the positions of its own cells, the tokens of the
duties it pays itself (at its own cells and at the others'), and the credits of what the others owe it.
-/
module

public import proofs.«01_k».proof.Proof.KernelIdeal.Body

@[expose] public section

noncomputable section

namespace Cert.KernelIdeal.Mesh

open Cert.KernelIdeal Cert.KernelIdeal.Gen Cert.Blocks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (m : (ℓ : Loc nD τ sig) → Buf (Elt F) ℓ) (ρ : Dev nD → PrngReg)

/-! ## The cells and the semaphores -/

/-- The kernel's own scoped semaphores: all the cells but the barrier. -/
abbrev osem : Fin 25 → SemLoc sig := fun k => csem k.succ

set_option maxRecDepth 4000 in
theorem ownSemFacts : Pipeline.OwnSemFacts cfg0.spec osem := by decide

abbrev cellAt (p : Dev nD × Fin 26) : GSem nD τ sig := kcell p.1 p.2

theorem cellAt_inj : Function.Injective (cellAt : Dev nD × Fin 26 → GSem nD τ sig) := fun p p' h => by
  obtain ⟨h1, h2⟩ := kcell_inj.mp h
  exact Prod.ext h1 h2

def allCells : Finset (GSem nD τ sig) := Finset.univ.map ⟨cellAt, cellAt_inj⟩

/-! ## The tokens a device pays with -/

/-- The places of the 27 tokens that device `c` pays with: the cell's owner, the cell, the round and the duty. -/
def tokAt (c : Dev nD) (i : Fin 27) : (Dev nD × Fin 26) × Fin 2 × Dev nD :=
  if i.val = 0 then ((right c, barK), 0, c)
  else if i.val = 1 then ((diag c, barK), 0, c)
  else if i.val = 2 then ((left c, barK), 0, c)
  else if i.val = 3 then ((right c, recvK c), 0, 0)
  else if i.val = 4 then ((left c, recvK c), 0, 0)
  else if h : i.val < 15 then ((c, sendK ⟨i.val - 5, by omega⟩), 0, 0)
  else if h : i.val < 23 then ((diag c, sliceK ⟨i.val - 15, by omega⟩), 0, 0)
  else if i.val = 23 then ((c, copyK 0), 0, 0)
  else if i.val = 24 then ((c, copyK 0), 1, 0)
  else if i.val = 25 then ((c, copyK 1), 0, 0)
  else ((c, copyK 1), 1, 0)

/-- Who pays with the token at a place, and the token's number there. -/
def tokOwner (x : (Dev nD × Fin 26) × Fin 2 × Dev nD) : Dev nD × ℕ :=
  if x.1.2.val = 0 then (x.2.2, if x.1.1 = right x.2.2 then 0 else if x.1.1 = diag x.2.2 then 1 else 2)
  else if x.1.2.val < 11 then (x.1.1, 4 + x.1.2.val)
  else if h : x.1.2.val < 15 then
    (⟨x.1.2.val - 11, by show x.1.2.val - 11 < 4; omega⟩, if x.1.1.val = (x.1.2.val - 11 + 1) % 4 then 3 else 4)
  else if x.1.2.val < 23 then (diag x.1.1, x.1.2.val)
  else (x.1.1, 23 + 2 * (x.1.2.val - 24) + x.2.1.val)

set_option maxRecDepth 8000 in
theorem tokOwner_at : ∀ (c : Dev nD) (i : Fin 27), tokOwner (tokAt c i) = (c, i.val) := by decide

abbrev tokOf (p : Dev nD × Fin 27) : GSem nD τ sig × ℕ × Dev nD :=
  (cellAt (tokAt p.1 p.2).1, (tokAt p.1 p.2).2.1.val, (tokAt p.1 p.2).2.2)

theorem tokOf_inj : Function.Injective (tokOf : Dev nD × Fin 27 → GSem nD τ sig × ℕ × Dev nD) := fun p p' h => by
  have h1 : (tokAt p.1 p.2).1 = (tokAt p'.1 p'.2).1 := cellAt_inj (congrArg Prod.fst h)
  have h2 : (tokAt p.1 p.2).2.1 = (tokAt p'.1 p'.2).2.1 := Fin.ext (congrArg (fun x => x.2.1) h)
  have h3 : (tokAt p.1 p.2).2.2 = (tokAt p'.1 p'.2).2.2 := congrArg (fun x => x.2.2) h
  have h4 : tokAt p.1 p.2 = tokAt p'.1 p'.2 := Prod.ext h1 (Prod.ext h2 h3)
  have h5 := congrArg tokOwner h4
  rw [tokOwner_at, tokOwner_at] at h5
  exact Prod.ext (congrArg (fun x : Dev nD × ℕ => x.1) h5) (Fin.ext (congrArg (fun x : Dev nD × ℕ => x.2) h5))

def allToks : Finset (GSem nD τ sig × ℕ × Dev nD) := Finset.univ.map ⟨tokOf, tokOf_inj⟩

/-- Token number `i` of device `c`. -/
def tokN (c : Dev nD) (i : Fin 27) : sProp 𝕄 := tok (tokAt c i).1.1 (tokAt c i).1.2 (tokAt c i).2.1.val (tokAt c i).2.2

theorem sep_toks (Φ : Fin 27 → sProp 𝕄) : bigSep Finset.univ Φ =
    iprop(Φ 0 ∗ Φ 1 ∗ Φ 2 ∗ Φ 3 ∗ Φ 4 ∗ Φ 5 ∗ Φ 6 ∗ Φ 7 ∗ Φ 8 ∗ Φ 9 ∗ Φ 10 ∗ Φ 11 ∗ Φ 12 ∗ Φ 13 ∗ Φ 14 ∗ Φ 15 ∗ Φ 16 ∗ Φ 17 ∗ Φ 18 ∗ Φ 19 ∗ Φ 20 ∗ Φ 21
      ∗ Φ 22 ∗ Φ 23 ∗ Φ 24 ∗ Φ 25 ∗ Φ 26) :=
  (bigSep_eq_bigSepL_of_eq (S := (Finset.univ : Finset (Fin 27)))
    [0, 1, 2, 3, 4, 5, 6, 7, 8, 9, 10, 11, 12, 13, 14, 15, 16, 17, 18, 19, 20, 21, 22, 23, 24, 25, 26] (by decide) (by decide) Φ).trans rfl

theorem toks_named (c : Dev nD) : (bigSep Finset.univ fun i : Fin 27 => (tokN c i : sProp 𝕄)) ⊢ toksIn c := by
  have e : (toksIn c : sProp 𝕄) = iprop(tokN c 0 ∗ tokN c 1 ∗ tokN c 2 ∗ tokN c 3 ∗ tokN c 4 ∗ tokN c 5 ∗ tokN c 6
      ∗ (tokN c 7 ∗ tokN c 8 ∗ tokN c 9 ∗ tokN c 10 ∗ tokN c 11 ∗ tokN c 12 ∗ tokN c 13 ∗ tokN c 14)
      ∗ (tokN c 15 ∗ tokN c 16 ∗ tokN c 17 ∗ tokN c 18 ∗ tokN c 19 ∗ tokN c 20 ∗ tokN c 21 ∗ tokN c 22)
      ∗ tokN c 23 ∗ tokN c 24 ∗ tokN c 25 ∗ tokN c 26) := by unfold toksIn; rw [sep_eight, sep_eight]; rfl
  rw [e, sep_toks]
  iintro ⟨H0, H1, H2, H3, H4, H5, H6, S0, S1, S2, S3, S4, S5, S6, S7, Q0, Q1, Q2, Q3, Q4, Q5, Q6, Q7, H⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [S0 S1 S2 S3 S4 S5 S6 S7]
  · isplitl [S0]; · iexact S0
    isplitl [S1]; · iexact S1
    isplitl [S2]; · iexact S2
    isplitl [S3]; · iexact S3
    isplitl [S4]; · iexact S4
    isplitl [S5]; · iexact S5
    isplitl [S6]; · iexact S6
    iexact S7
  isplitl [Q0 Q1 Q2 Q3 Q4 Q5 Q6 Q7]
  · isplitl [Q0]; · iexact Q0
    isplitl [Q1]; · iexact Q1
    isplitl [Q2]; · iexact Q2
    isplitl [Q3]; · iexact Q3
    isplitl [Q4]; · iexact Q4
    isplitl [Q5]; · iexact Q5
    isplitl [Q6]; · iexact Q6
    iexact Q7
  iexact H

/-! ## From the launch's element to the devices -/

def u₀ : UU := (initOf (Pipeline.cells cfgs cellOf_inj) (Pipeline.launchToks cfgs cellOf_inj), initOf allCells allToks)

/-- What the launch's element gives device `c`. -/
def dealt (c : Dev nD) : sProp 𝕄 :=
  iprop((bigSep Finset.univ fun k : Fin 26 => roundState ER (exch m ρ) (kcell c k) 0)
    ∗ (bigSep Finset.univ fun k : Fin 26 => pos c k 0) ∗ (bigSep Finset.univ fun k : Fin 26 => reached ER (kcell c k) 0)
    ∗ bigSep Finset.univ fun i : Fin 27 => tokN c i)

/-- What the device then starts with. -/
def holds (c : Dev nD) : sProp 𝕄 := iprop(∃ K, records m ρ K ∗ (bigSep Finset.univ fun k : Fin 26 => pos c k 0) ∗ toksIn c)

theorem fund_all : BI.own (ER (initOf allCells allToks)) ⊢ (|==> bigSep Finset.univ (dealt m ρ) : sProp 𝕄) := by
  have hX (Φ : GSem nD τ sig → sProp 𝕄) : bigSep allCells Φ = bigSep Finset.univ fun c : Dev nD => bigSep Finset.univ fun k : Fin 26 => Φ (kcell c k) := by
    unfold allCells; rw [bigSep_map, bigSep_univ_prod]; rfl
  have hT : bigSep allToks (fun x => (dutyTok ER x.1 x.2.1 x.2.2 : sProp 𝕄)) = bigSep Finset.univ fun c : Dev nD => bigSep Finset.univ fun i : Fin 27 => tokN c i := by
    unfold allToks; rw [bigSep_map, bigSep_univ_prod]; rfl
  iintro HX
  imod (Rounds.fund ER (exch m ρ) allCells allToks) $$ HX with ⟨Hst, Hr, Hat, Htok⟩
  imodintro
  ihave Hst := (ent_of_eq (hX fun g => roundState ER (exch m ρ) g 0)) $$ Hst
  ihave Hat := (ent_of_eq (hX fun g => atPos ER g 0 ∅ 0)) $$ Hat
  ihave Hr := (ent_of_eq (hX fun g => reached ER g 0)) $$ Hr
  ihave Htok := (ent_of_eq hT) $$ Htok
  unfold dealt; simp only [bigSep_sep']
  isplitl [Hst]; · iexact Hst
  isplitl [Hat]; · iexact Hat
  isplitl [Hr] <;> iassumption

/-- The kernel's own semaphores and the barrier are its cells' counters. -/
theorem counters (c : Dev nD) :
    (iprop(unscopedSems0 c ∗ Pipeline.ownSems0 (Ix := Unit) (Name := ℕ) (U := UU) (Lvl := ℕ) (Val := Elt F) (τ := τ) osem c) : sProp 𝕄)
      = bigSep Finset.univ fun k : Fin 26 => fin c k := by
  have h : (unscopedSems0 c : sProp 𝕄) = fin c 0 := by
    unfold unscopedSems0; rw [bigSep_eq_bigSepL_of_eq [SemLoc.reg barS] (by decide) (by decide)]; rfl
  rw [h, Pipeline.ownSems0_eq_of_list c osem
      [0, 1, 2, 3, 4, 5, 6, 7, 8, 9, 10, 11, 12, 13, 14, 15, 16, 17, 18, 19, 20, 21, 22, 23, 24] (by decide) (by decide),
    bigSep_eq_bigSepL_of_eq (S := (Finset.univ : Finset (Fin 26)))
      [0, 1, 2, 3, 4, 5, 6, 7, 8, 9, 10, 11, 12, 13, 14, 15, 16, 17, 18, 19, 20, 21, 22, 23, 24, 25] (by decide) (by decide)]
  rfl

/-- A device's invariants, allocated from its counters at zero. -/
theorem device_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k : Fin 26 => iprop(∃ κ : ℕ, cellInv ER (exch m ρ) κ (kcell c k)))
          ∗ (bigSep Finset.univ fun k : Fin 26 => reached ER (kcell c k) 0) ∗ (bigSep Finset.univ fun k : Fin 26 => pos c k 0) ∗ toksIn c) := by
  have alloc : iprop((bigSep Finset.univ fun k : Fin 26 => fin c k) ∗ bigSep Finset.univ fun k : Fin 26 => roundState ER (exch m ρ) (kcell c k) 0)
      ⊢ (|={Set.univ}=> bigSep Finset.univ fun k : Fin 26 => iprop(∃ κ : ℕ, cellInv ER (exch m ρ) κ (kcell c k)) : sProp 𝕄) := by
    rw [← bigSep_sep']
    exact (bigSep_mono fun k _ => (Rounds.body_intro ER (exch m ρ) (kcell c k)).trans inv_alloc).trans (bigSep_fupd _ _)
  unfold dealt
  iintro ⟨Hos, Hus, Hst, Hat, Hre, Htok⟩
  ihave Hv := (ent_of_eq (counters (F := F) c)) $$ [Hos Hus]
  · isplitl [Hus] <;> iassumption
  imod alloc $$ [Hv Hst] with Hinv
  · isplitl [Hv] <;> iassumption
  imodintro
  isplitl [Hinv]; · iexact Hinv
  isplitl [Hre]; · iexact Hre
  isplitl [Hat]; · iexact Hat
  iapply (toks_named (F := F) c); iexact Htok

theorem spread {R : sProp 𝕄} [BI.Persistent R] {Φ Ψ : Dev nD → sProp 𝕄} (h : ∀ c, iprop(R ∗ Φ c) ⊢ Ψ c) :
    iprop(R ∗ bigSep Finset.univ Φ) ⊢ bigSep Finset.univ Ψ := by
  refine (sep_mono_left (BI.bigSep_of_persistent (Finset.univ : Finset (Dev nD)) R)).trans ?_
  rw [← bigSep_sep']
  exact bigSep_mono fun c _ => h c

/-- All devices' invariants together are the records that each of them keeps. -/
theorem share_records :
    (bigSep Finset.univ fun c : Dev nD => iprop((bigSep Finset.univ fun k : Fin 26 => iprop(∃ κ : ℕ, cellInv ER (exch m ρ) κ (kcell c k)))
          ∗ (bigSep Finset.univ fun k : Fin 26 => reached ER (kcell c k) 0) ∗ (bigSep Finset.univ fun k : Fin 26 => pos c k 0) ∗ toksIn c) : sProp 𝕄)
      ⊢ bigSep Finset.univ (holds m ρ) := by
  rw [bigSep_sep', bigSep_sep', ← bigSep_univ_prod (fun p : Dev nD × Fin 26 => iprop(∃ κ : ℕ, cellInv ER (exch m ρ) κ (kcell p.1 p.2))),
    ← bigSep_univ_prod (fun p : Dev nD × Fin 26 => (reached ER (kcell p.1 p.2) 0 : sProp 𝕄))]
  have h (K : Dev nD × Fin 26 → ℕ) (c : Dev nD) :
      iprop(records m ρ K ∗ ((bigSep Finset.univ fun k : Fin 26 => pos c k 0) ∗ toksIn c)) ⊢ holds m ρ c := by
    unfold holds; iintro H; iexists K; iexact H
  iintro ⟨HI, HR, H⟩
  ihave HK := (BI.bigSep_exists_pi Finset.univ (fun (p : Dev nD × Fin 26) (κ : ℕ) => (cellInv ER (exch m ρ) κ (kcell p.1 p.2) : sProp 𝕄))) $$ HI
  icases HK with ⟨%K, HI⟩
  iapply (spread (h K))
  isplitl [HI HR]
  · unfold records; rw [bigSep_sep']
    isplitl [HI] <;> iassumption
  iexact H

theorem glob : (bigSep Finset.univ fun c => iprop(Pipeline.ownSems0 (Ix := Unit) (Name := ℕ) (U := UU) (Lvl := ℕ) (Val := Elt F) (τ := τ) osem c
        ∗ unscopedSems0 c ∗ dealt m ρ c) : sProp 𝕄)
    ⊢ |={Set.univ}=> bigSep Finset.univ (holds m ρ) :=
  ((bigSep_mono fun c _ => device_alloc m ρ c).trans (bigSep_fupd _ _)).trans (BI.fupd_mono (share_records m ρ))

/-! ## The credits -/

theorem tally_cell (o o' : Dev nD) (k k' : Fin 26) (n : ℕ) :
    (tallyAt (kcell o k) () n : CellTallies nD τ sig Unit) (kcell o' k') () = if o' = o ∧ k' = k then n else 0 := by
  rw [tallyAt_apply]
  exact if_congr ⟨fun h => kcell_inj.mp h.1, fun h => ⟨by rw [h.1, h.2], rfl⟩⟩ rfl rfl

theorem oweS_cell (d o : Dev nD) (k : Fin 26) : ∀ n, n ≤ 8 →
    oweS d n (kcell o k) () = if o = diag d ∧ 23 - n ≤ k.val ∧ k.val < 23 then NQ else 0
  | 0, _ => by
    rw [if_neg (by omega)]; rfl
  | n + 1, hn => by
    show (oweS d n + tallyAt (kcell (diag d) ⟨22 - n, by omega⟩) () NQ) (kcell o k) () = _
    rw [Pi.add_apply, Finsupp.add_apply, oweS_cell d o k n (by omega), tally_cell]
    by_cases ho : o = diag d
    · by_cases hk : k = ⟨22 - n, by omega⟩
      · have := congrArg Fin.val hk; dsimp only at this
        rw [if_neg (c := o = diag d ∧ 23 - n ≤ k.val ∧ k.val < 23) (by omega), if_pos ⟨ho, hk⟩, if_pos ⟨ho, by omega, by omega⟩, Nat.zero_add]
      · have : k.val ≠ 22 - n := fun h => hk (Fin.ext h)
        rw [if_neg (c := o = diag d ∧ k = ⟨22 - n, by omega⟩) (fun h => hk h.2), Nat.add_zero]
        exact if_congr ⟨fun h => ⟨h.1, by have := h.2.1; omega, h.2.2⟩, fun h => ⟨h.1, by have := h.2.1; omega, h.2.2⟩⟩ rfl rfl
    · rw [if_neg (fun h => ho h.1), if_neg (fun h => ho h.1), if_neg (fun h => ho h.1)]

/-- What device `d` owes at cell `k` of device `o`. -/
theorem owed_cell (d o : Dev nD) (k : Fin 26) : O₀ d (kcell o k) () =
    (((((if o = diag d ∧ 15 ≤ k.val ∧ k.val < 23 then NQ else 0) + (if o = left d ∧ k = recvK d then NB else 0)) + (if o = right d ∧ k = recvK d then NB else 0))
      + (if o = left d ∧ k = barK then 1 else 0)) + (if o = diag d ∧ k = barK then 1 else 0)) + (if o = right d ∧ k = barK then 1 else 0) := by
  unfold O₀ oweB2 oweB1 oweR oweL
  simp only [Pi.add_apply, Finsupp.add_apply, tally_cell, oweS_cell d o k 8 le_rfl]

theorem owed_bar (c : Dev nD) : ∑ d : Dev nD, O₀ d (kcell c barK) () = 3 := by
  have h1 : ∀ c d : Dev nD, (c = diag d ∧ 15 ≤ barK.val ∧ barK.val < 23) ↔ False := by decide
  have h2 : ∀ c d : Dev nD, (c = left d ∧ barK = recvK d) ↔ False := by decide
  have h3 : ∀ c d : Dev nD, (c = right d ∧ barK = recvK d) ↔ False := by decide
  have h4 : ∀ c d : Dev nD, (c = left d ∧ True) ↔ d = right c := by decide
  have h5 : ∀ c d : Dev nD, (c = diag d ∧ True) ↔ d = diag c := by decide
  have h6 : ∀ c d : Dev nD, (c = right d ∧ True) ↔ d = left c := by decide
  simp only [owed_cell, h1, h2, h3, h4, h5, h6, eq_self_iff_true, if_false, Finset.sum_add_distrib, Finset.sum_ite_eq', Finset.mem_univ, if_true, Finset.sum_const_zero,
    Nat.zero_add, Nat.reduceAdd]

theorem owed_right (c : Dev nD) : ∑ d : Dev nD, O₀ d (kcell c (recvK (right c))) () = NB := by
  have h1 : ∀ c d : Dev nD, (c = diag d ∧ 15 ≤ (recvK (right c)).val ∧ (recvK (right c)).val < 23) ↔ False := by decide
  have h2 : ∀ c d : Dev nD, (c = left d ∧ recvK (right c) = recvK d) ↔ d = right c := by decide
  have h3 : ∀ c d : Dev nD, (c = right d ∧ recvK (right c) = recvK d) ↔ False := by decide
  have h4 : ∀ c d : Dev nD, (c = left d ∧ recvK (right c) = barK) ↔ False := by decide
  have h5 : ∀ c d : Dev nD, (c = diag d ∧ recvK (right c) = barK) ↔ False := by decide
  have h6 : ∀ c d : Dev nD, (c = right d ∧ recvK (right c) = barK) ↔ False := by decide
  simp only [owed_cell, h1, h2, h3, h4, h5, h6, if_false, Finset.sum_add_distrib, Finset.sum_ite_eq', Finset.mem_univ, if_true, Finset.sum_const_zero,
    Nat.zero_add, Nat.add_zero]

theorem owed_left (c : Dev nD) : ∑ d : Dev nD, O₀ d (kcell c (recvK (left c))) () = NB := by
  have h1 : ∀ c d : Dev nD, (c = diag d ∧ 15 ≤ (recvK (left c)).val ∧ (recvK (left c)).val < 23) ↔ False := by decide
  have h2 : ∀ c d : Dev nD, (c = left d ∧ recvK (left c) = recvK d) ↔ False := by decide
  have h3 : ∀ c d : Dev nD, (c = right d ∧ recvK (left c) = recvK d) ↔ d = left c := by decide
  have h4 : ∀ c d : Dev nD, (c = left d ∧ recvK (left c) = barK) ↔ False := by decide
  have h5 : ∀ c d : Dev nD, (c = diag d ∧ recvK (left c) = barK) ↔ False := by decide
  have h6 : ∀ c d : Dev nD, (c = right d ∧ recvK (left c) = barK) ↔ False := by decide
  simp only [owed_cell, h1, h2, h3, h4, h5, h6, if_false, Finset.sum_add_distrib, Finset.sum_ite_eq', Finset.mem_univ, if_true, Finset.sum_const_zero,
    Nat.zero_add, Nat.add_zero]

theorem owed_slice (c : Dev nD) (q : Fin 8) : ∑ d : Dev nD, O₀ d (kcell c (sliceK q)) () = NQ := by
  have h1 : ∀ (c : Dev nD) (q : Fin 8) (d : Dev nD), (c = diag d ∧ 15 ≤ (sliceK q).val ∧ (sliceK q).val < 23) ↔ d = diag c := by decide
  have h2 : ∀ (c : Dev nD) (q : Fin 8) (d : Dev nD), (c = left d ∧ sliceK q = recvK d) ↔ False := by decide
  have h3 : ∀ (c : Dev nD) (q : Fin 8) (d : Dev nD), (c = right d ∧ sliceK q = recvK d) ↔ False := by decide
  have h4 : ∀ (c : Dev nD) (q : Fin 8) (d : Dev nD), (c = left d ∧ sliceK q = barK) ↔ False := by decide
  have h5 : ∀ (c : Dev nD) (q : Fin 8) (d : Dev nD), (c = diag d ∧ sliceK q = barK) ↔ False := by decide
  have h6 : ∀ (c : Dev nD) (q : Fin 8) (d : Dev nD), (c = right d ∧ sliceK q = barK) ↔ False := by decide
  simp only [owed_cell, h1, h2, h3, h4, h5, h6, if_false, Finset.sum_add_distrib, Finset.sum_ite_eq', Finset.mem_univ, if_true, Finset.sum_const_zero,
    Nat.zero_add, Nat.add_zero]

theorem credit_at (c : Dev nD) (k : Fin 26) (n : ℕ) (h : ∑ d : Dev nD, O₀ d (kcell c k) () = n) :
    tallyOn (kcell c k) (launchCredit (Pipeline.owing O₀) 0 (kcell c k)) = (tallyAt (kcell c k) () n : CellTallies nD τ sig Unit) := by
  unfold tallyAt; refine congrArg _ (Finsupp.ext fun u => ?_); cases u
  rw [Pipeline.launchCredit_owing, Finsupp.single_eq_same, h]

/-- The launch's credits, cell by cell. -/
theorem credits_cells (c : Dev nD) : (Pipeline.launchCred O₀ c : sProp 𝕄)
    ⊢ bigSep Finset.univ fun k : Fin 26 => cred (tallyOn (kcell c k) (launchCredit (Pipeline.owing O₀) 0 (kcell c k))) := by
  unfold Pipeline.launchCred
  have e := bigSep_map (s := Finset.univ) (⟨csem, fun _ _ h => csem_inj h⟩ : Fin 26 ↪ SemLoc sig)
    (Φ := fun sm : SemLoc sig => (cred (tallyOn ((c : Thread nD τ), sm) (launchCredit (Pipeline.owing O₀) 0 ((c : Thread nD τ), sm))) : sProp 𝕄))
  exact (bigSep_subset (Finset.subset_univ _)).trans (ent_of_eq e)

theorem credits (c : Dev nD) : (Pipeline.launchCred O₀ c : sProp 𝕄) ⊢ crdIn c := by
  have hq : (bigSep Finset.univ fun q : Fin 8 => (cred (tallyOn (kcell c (sliceK q)) (launchCredit (Pipeline.owing O₀) 0 (kcell c (sliceK q)))) : sProp 𝕄))
      = bigSep Finset.univ fun q : Fin 8 => crd c (sliceK q) (NR 128) := bigSep_congr fun q _ => by rw [credit_at c (sliceK q) NQ (owed_slice c q)]
  refine (credits_cells c).trans ((cells_out c _).trans ?_)
  unfold fewCells crdIn
  dsimp only
  rw [hq, credit_at c barK 3 (owed_bar c), credit_at c (recvK (right c)) NB (owed_right c), credit_at c (recvK (left c)) NB (owed_left c)]
  iintro ⟨⟨Hb, -, H1, H2, -⟩, -, Hq⟩
  isplitl [Hb]; · iexact Hb
  isplitl [H1]; · iexact H1
  isplitl [H2]; · iexact H2
  iexact Hq

end Cert.KernelIdeal.Mesh

end
-- ==== Proof.KernelIdeal.Launch.lean ====
/-
# The run of @main

The body under the launch: each device's pipeline has one point, stages its block of `x`, runs the body and writes its
block of the result back. At the end every device's arguments are what they were, its result is the block the body
computed, and every semaphore is at zero.
-/
module

public import proofs.«01_k».proof.Proof.KernelIdeal.Deal
public import Idealize.ShloMosaic.Lib.Pipeline.CollectiveSegs

@[expose] public section

noncomputable section

namespace Cert.KernelIdeal.Mesh

open Cert.KernelIdeal Cert.KernelIdeal.Gen Cert.Blocks

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The pipeline's data -/

theorem points : cfg0.N = 1 := by decide
def point : Fin cfg0.N := ⟨0, by rw [points]; decide⟩
theorem one_point (t : Fin cfg0.N) : t = point := by
  obtain ⟨t, ht⟩ := t
  have := points; unfold point; exact Fin.ext (by dsimp only; omega)

/-- What the launch leaves a device with before the staging. -/
def start (c : Dev nD) : sProp 𝕄 := iprop(holds m ρ c ∗ levAts L lv ∗ crdIn c ∗ wAll m ρ c)

/-- What the body finds, -/
def before₀ (c : Dev nD) : sProp 𝕄 := iprop(start m ρ c ∗ scratch c)

/-- and what it leaves. -/
def after₀ (c : Dev nD) : sProp 𝕄 := iprop((bigSep Finset.univ fun k : Fin 26 => fin c k) ∗ scratch c ∗ wAll m ρ c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xin m ρ c
    | ⟨1, _⟩ => outv m ρ c
    | ⟨_ + 2, h⟩ => absurd h (Nat.not_lt.2 (Nat.le_add_left _ _))
  Φ t := match t with
    | ⟨0, _⟩ => before₀ m ρ c
    | ⟨_ + 1, _⟩ => after₀ m ρ c
  q _ := fullShare
  owed t := match t with
    | ⟨0, _⟩ => O₀ c
    | ⟨_ + 1, _⟩ => 0

theorem fetched (t : Fin cfg0.N) : (cfg0.win (0 : Fin 2)).fetch t = true := by rw [one_point t]; rfl

theorem owns_buffer (c : Dev nD) (b : Ref sig .tc) (X : b.ty.Contents (Elt F)) :
    (owns (c : Thread nD τ) (Memref.whole b) fullShare X : sProp 𝕄) = iprop(∃ f, ⌜f = X⌝ ∗ ((c : Thread nD τ).loc b) ↦{fullShare} f) := by
  unfold owns; simp only [Memref.view_whole, View.read_whole, View.set_whole]

/-- A staging buffer at contents `X`. -/
abbrev staged (c : Dev nD) (b : Ref sig .tc) (X : b.ty.Contents (Elt F)) : sProp 𝕄 := iprop(∃ f, ⌜f = X⌝ ∗ ((c : Thread nD τ).loc b) ↦{fullShare} f)

set_option maxRecDepth 4000 in
def bodyPre (c : Dev nD) : sProp 𝕄 :=
  iprop(before₀ m ρ c ∗ (dats m ρ 0 c).owesAt () point.castSucc
    ∗ (∃ d, staged c cc0_stg0_0 ((dats m ρ 0 c).before (0 : Fin 2) point d))
    ∗ (∃ d, staged c cc0_stg1_0 ((dats m ρ 0 c).before (1 : Fin 2) point d)))

set_option maxRecDepth 4000 in
def bodyPost (c : Dev nD) : sProp 𝕄 :=
  iprop(after₀ m ρ c ∗ (dats m ρ 0 c).owesAt () point.succ
    ∗ staged c cc0_stg0_0 (xin m ρ c) ∗ staged c cc0_stg1_0 (outv m ρ c))

theorem wp_weaken {c : Dev nD} {α : Type} {p : Prog (TpuEff nD τ sig (Elt F) Λ₀ .tc) α} {Q Q' : α → sProp 𝕄} (h : ∀ a, Q a ⊢ Q' a) :
    WP c p Q ⊢ WP c p Q' := wp_mono _ _ _ h

set_option maxRecDepth 4000 in
theorem body_enters (c : Dev nD) : bodyPre m ρ c ⊢ WP c
    (cc0_body mX (Memref.isWhole_whole _) mW (Memref.isWhole_whole _) mO (Memref.isWhole_whole _) mB (Memref.isWhole_whole _) mL (Memref.isWhole_whole _) mG (Memref.isWhole_whole _)
        cc0_scratch3 cc0_scratch4 cc0_scratch5 cc0_scratch6 cc0_scratch7)
      fun _ => iprop(due c 0 ∗ (bigSep Finset.univ fun k : Fin 26 => fin c k) ∗ xStage m ρ c ∗ oAll c (outv m ρ c) ∗ scratch c ∗ wAll m ρ c) := by
  unfold bodyPre before₀ start holds Dat.owesAt Pipeline.owesWithin
  rw [show (dats m ρ 0 c).owed point.castSucc = O₀ c from rfl]
  iintro ⟨⟨⟨⟨%K, #Hr, Hpos, Htok⟩, #Hlev, Hcr, HW⟩, Hs⟩, ⟨%W, %hW, HO⟩, ⟨%d0, %g0, %hg0, HX⟩, ⟨%d1, %g1, %hg1, HY⟩⟩
  have hx : g0 = xin m ρ c := by rw [hg0]; unfold Dat.before; rw [if_pos (fetched point)]; rfl
  subst hx
  iapply (body_runs m ρ K (c := c) (f := g1))
  isplitr; · iexact Hr
  isplitr; · iexact Hlev
  isplitl [HO]; · iexists W; iexact HO
  isplitl [Hpos]; · iexact Hpos
  isplitl [Htok]; · iexact Htok
  isplitl [Hcr]; · iexact Hcr
  isplitl [HX]; · unfold xStage; iexact HX
  isplitl [HY]; · unfold oAll; iexact HY
  isplitl [Hs] <;> iassumption

set_option maxRecDepth 40000 in
theorem body_obligation (c : Dev nD) : BodyObligation (dats (F := F) m ρ 0 c) (defs₀ (F := F)) 𝒱₀ () Set.univ := fun t => by
  rw [one_point t]
  rw [show ∀ Φ : Fin cfg0.W → sProp 𝕄, bigSep Finset.univ Φ = iprop(Φ (0 : Fin 2) ∗ Φ (1 : Fin 2)) from bigSep_W0,
    show ∀ Φ : Fin cfg0.W → sProp 𝕄, bigSep Finset.univ Φ = iprop(Φ (0 : Fin 2) ∗ Φ (1 : Fin 2)) from bigSep_W0]
  simp only [owns_buffer]
  show bodyPre m ρ c ⊢ WP c
    (cc0_body mX (Memref.isWhole_whole _) mW (Memref.isWhole_whole _) mO (Memref.isWhole_whole _) mB (Memref.isWhole_whole _) mL (Memref.isWhole_whole _) mG (Memref.isWhole_whole _)
            cc0_scratch3 cc0_scratch4 cc0_scratch5 cc0_scratch6 cc0_scratch7) (fun _ => bodyPost m ρ c)
  have exit : ∀ _ : PUnit, iprop(due c 0 ∗ (bigSep Finset.univ fun k : Fin 26 => fin c k) ∗ xStage m ρ c ∗ oAll c (outv m ρ c) ∗ scratch c ∗ wAll m ρ c)
      ⊢ bodyPost m ρ c := fun _ => by
    unfold bodyPost after₀ Dat.owesAt Pipeline.owesWithin xStage oAll
    rw [show (dats m ρ 0 c).owed point.succ = 0 from rfl]
    iintro ⟨⟨%W, HO⟩, Hf, HX, HY, Hs, HW⟩
    isplitl [Hf Hs HW]
    · isplitl [Hf]; · iexact Hf
      isplitl [Hs] <;> iassumption
    isplitl [HO]
    · iexists W; isplitr; · ipureintro; exact fun _ _ => Or.inl trivial
      iexact HO
    isplitl [HX]
    · iexists _; isplitr; · (ipureintro; rfl)
      iexact HX
    iexists _; isplitr; · (ipureintro; rfl)
    iexact HY
  exact (body_enters m ρ c).trans (wp_weaken exit)

/-! ## The launch's side conditions -/

theorem shares (c : Dev nD) (w : Fin cfg0.W) : (dats m ρ 0 c).share w = fullShare := by unfold Dat.share; split <;> rfl

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ holds m ρ c)
      ⊢ |={Set.univ}=> iprop(start m ρ c ∗ emp) := by
  rw [Pipeline.unscopedRestP_none, unscopedRest0_eq]
  unfold start wAll
  iintro ⟨HW, Hlev, Hcr, -, HG⟩
  imodintro
  isplitl
  · isplitl [HG]; · iexact HG
    isplitl [Hlev]; · iexact Hlev
    isplitl [Hcr]; · iapply (credits (F := F) c); iexact Hcr
    iexact HW
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before₀ m ρ c from rfl, scopedRest0_eq]
  unfold before₀ scratch
  iintro ⟨Hs, -, Hr⟩
  isplitl [Hs] <;> iassumption

theorem leave (c : Dev nD) :
    (dats m ρ 0 c).Φ (Fin.last cfg0.N) ⊢ iprop((unscopedSems0 c ∗ wAll m ρ c) ∗ Pipeline.ownSems0 osem c ∗ Pipeline.scopedRest cfg0.spec c) := by
  rw [show (dats m ρ 0 c).Φ (Fin.last cfg0.N) = after₀ m ρ c from rfl, scopedRest0_eq]
  unfold after₀ scratch
  rw [← counters]
  iintro ⟨⟨Hu, Ho⟩, Hs, HW⟩
  isplitl [Hu HW]
  · isplitl [Hu] <;> iassumption
  isplitl [Ho] <;> iassumption

theorem waits (c : Dev nD) : (levAts L lv : sProp 𝕄) ⊢ Pipeline.cellsWaits cfgs (dats m ρ) () 0 c :=
  Pipeline.cellsWaits_intro cfgs (dats m ρ) () 0 c fun w s t =>
    mayWait_stage c _ (by fin_cases w <;> fin_cases s <;> decide) _ (by
      rcases t with ⟨_ | _, ht⟩
      · exact Or.inl rfl
      · exact Or.inr rfl)

/-- What is read of a device at the end, besides the pipeline's arrays. -/
def Rest (c : Dev nD) (s : MemSt nD τ sig (Elt F)) : Prop :=
  (∀ sm : SemLoc sig, sm.isScoped .tc = false → s.sem ((c.tc : Thread nD τ), sm) = 0) ∧ s.mem ((c : Thread nD τ).loc main_arg1) = win m ρ c

theorem read_rest (c : Dev nD) (s' : Phys nD τ sig (Elt F)) :
    iprop((unscopedSems0 c ∗ wAll m ρ c) ∗ emp ∗ SI s') ⊢ |={Set.univ}=> iprop(⌜Rest m ρ c s'.mem⌝ ∗ SI s' : sProp 𝕄) := by
  have rd := pointsTo_read_all (Ix := Unit) (Name := ℕ) (U := UU) (Lvl := ℕ) ({()} : Finset Unit) (fun _ => (c : Thread nD τ).loc main_arg1) (fun _ => win m ρ c) s'
  rw [bigSep_singleton] at rd
  unfold wAll Rest
  iintro ⟨⟨Hu, HW⟩, -, HSI⟩
  imod (Pipeline.unscopedSems0_read (X := unscopedSems0 c) (c := c) fupd_intro s') $$ [Hu HSI] with ⟨%h, HSI⟩
  · isplitl [Hu] <;> iassumption
  ihave H := rd $$ [HW HSI]
  · isplitl [HW] <;> iassumption
  icases H with ⟨%hw, HSI⟩
  imodintro
  isplitr; · ipureintro; exact ⟨h, hw () (Finset.mem_singleton_self _)⟩
  iexact HSI

/-! ## The run -/

/-- What the run leaves: the pipeline's arrays as its data say, `w` unchanged, the semaphores at zero. -/
def Ends (r : PUnit × MemSt nD τ sig (Elt F)) : Prop :=
  (∀ (c : Dev nD) (w : Fin cfg0.W), r.2.mem ((cfg0.win w).arr.view.loc (c : Thread nD τ)) = (dats m ρ 0 c).arrAt w cfg0.N)
    ∧ (∀ c : Dev nD, r.2.mem ((c : Thread nD τ).loc main_arg1) = win m ρ c) ∧ r.2.sem = fun _ => 0

set_option maxRecDepth 8000 in
theorem run_main : θ_run defs (onTc (τ := τ) (main (F := F))) (s₀ m ρ) (Ends m ρ) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := shares m ρ)
    (hdistinct := winFacts0.arr_inj)
    (O₀ := O₀) (howed₀ := fun _ => rfl) (howedN := fun _ => rfl)
    (L := L) (lv := lv) (hL := L_of_ne) (hwaits := waits m ρ)
    (G := dealt m ρ) (G' := holds m ρ) (u₀ := u₀)
    (hu₀ := by
      unfold u₀
      iintro Hu
      ihave H := (ownU_pair _ _) $$ Hu
      icases H with ⟨HP, HX⟩
      imod (fund_all m ρ) $$ HX with HG
      imodintro
      isplitl [HP] <;> iassumption)
    (hglob := glob m ρ)
    (hA := fun _ _ => rfl) (hpf := fun _ k => k.elim0)
    (X := start m ρ) (Y := fun c => iprop(unscopedSems0 c ∗ wAll m ρ c)) (Z := fun _ => iprop(emp))
    (hX := start_intro m ρ) (hin := enter m ρ) (hout := leave m ρ)
    (QY := Rest m ρ) (hY := read_rest m ρ)
    (hQ := fun _ h hs => ⟨fun c w => (h c).1 w, fun c => (h c).2.2.2, sem_eq_zero hs fun c => (h c).2.2.1⟩)

/-- The array of `x` is only read. -/
theorem x_kept (c : Dev nD) : (dats m ρ 0 c).arrAt (0 : Fin 2) cfg0.N = (s₀ m ρ).mem (win0_0.arr.view.loc (c : Thread nD τ)) :=
  (dats (F := F) m ρ 0 c).arrAt_in (0 : Fin 2) rfl _

end Cert.KernelIdeal.Mesh

end
-- ==== Proof.KernelIdeal.Result.lean ====
/-
# What the arrays hold

The pipeline's one block of each array is the whole array. So a device's block of `x` is its argument as it is, and its
result array ends holding what the body computed.
-/
module

public import proofs.«01_k».proof.Proof.KernelIdeal.Launch
public import Idealize.ShloMosaic.Lib.Pipeline.Value

@[expose] public section

noncomputable section

namespace Cert.KernelIdeal.Mesh

open Cert.KernelIdeal Cert.KernelIdeal.Gen Cert.Blocks

open Idealize.ShloMosaic
open Idealize.ShloMosaic.TcCoe
open Idealize.SL Idealize.SL.Sem
open Idealize.ShloMosaic.Pipeline (Dat)

variable {F : FTy → Type} [FloatOps F]

variable (m : (ℓ : Loc nD τ sig) → Buf (Elt F) ℓ) (ρ : Dev nD → PrngReg)

/-- The one block of `x` starts at its first element, -/
theorem x_corner : (fun a => win0_0.index (0 : Fin 1) a * main_arg0.ty.shape.size a) = fun _ => 0 := by
  funext a; fin_cases a <;> decide

/-- and the one block of the result at its. -/
theorem out_corner : (fun a => win0_1.index (0 : Fin 1) a * main_v1.ty.shape.size a) = fun _ => 0 := by
  funext a; fin_cases a <;> decide

/-- A device's block of `x` is the array it was given. -/
theorem xin_eq (c : Dev nD) : xin m ρ c = m ((c : Thread nD τ).loc main_arg0) :=
  Memref.read_access_unit_zero (Elt F) main_arg0 x_corner (fun a => by rw [congrFun x_corner a]; simp) _

theorem written (t : Fin cfg0.N) : (cfg0.win (1 : Fin 2)).flush t = true := by rw [one_point t]; decide

/-- The block written back is the whole of the result. -/
theorem flushed_out (c : Dev nD) (t : Fin cfg0.N) :
    (dats m ρ 0 c).flushed (1 : Fin 2) t = ((cfg0.win (1 : Fin 2)).blk t).view.read (Elt F) (outv m ρ c) := by
  rw [one_point t]
  exact (Memref.read_access_unit_zero (Elt F) main_v1 out_corner (fun a => by rw [congrFun out_corner a]; simp) (outv m ρ c)).symm

/-- The result array ends holding what the body computed. -/
theorem result_array (c : Dev nD) : (dats m ρ 0 c).arrAt (1 : Fin 2) cfg0.N = outv m ρ c :=
  (dats m ρ 0 c).arrAt_eq_of_cover (1 : Fin 2) (outv m ρ c) (fun t _ => flushed_out m ρ c t) fun i =>
    ⟨point, written point, by
      show i ∈ ((View.whole main_v1).slice (win0_1.rect (0 : Fin 1))).set
      rw [View.set_slice_whole, Rect.mem_set_unit]
      intro a
      have h0 : (i 0 : ℕ) < 1024 := (i 0).isLt
      have h1 : (i 1 : ℕ) < 2048 := (i 1).isLt
      have hc := congrFun out_corner a
      refine ⟨le_of_eq_of_le hc (Nat.zero_le _), ?_⟩
      refine lt_of_lt_of_eq ?_ (congrArg (· + _) hc.symm)
      match a with
      | 0 => exact lt_of_lt_of_eq h0 (by decide)
      | 1 => exact lt_of_lt_of_eq h1 (by decide)⟩

/-- Every run ends with each device's result as computed, its arguments as they were, and all semaphores at zero. -/
theorem run : θ_run defs (onTc (τ := τ) (main (F := F))) ⟨m, fun _ => 0, ρ⟩ fun r =>
    (∀ c : Dev nD, r.2.mem ((c.tc : Thread nD τ).loc main_v1) = outv m ρ c
      ∧ r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0 :=
  (θ_run defs _ _).mono (fun _ h => ⟨fun c => ⟨(h.1 c (1 : Fin 2)).trans (result_array m ρ c),
    (h.1 c (0 : Fin 2)).trans (x_kept m ρ c), h.2.1 c⟩, h.2.2⟩) (run_main m ρ)

end Cert.KernelIdeal.Mesh

end
-- ==== Proof.Gate.lean ====
/-
# The equation

Sums and functions of extended reals: a sum over 4096 terms by the four devices' 1024, in the order in which a device
adds them; the function the kernel applies last, against the quotient of the references; and the clip, which changes
nothing where it does not cut.
-/
module

public import Idealize.ShloMosaic.PureOps.Ideal
public import Idealize.ShloMosaic.PureOps.Ideal.Laws
public import Idealize.ShloMosaic.Lib.Pointwise.Sums

@[expose] public section

noncomputable section

namespace Cert.Gate

open Idealize.ShloMosaic

/-- The function the kernel applies last. -/
def gate (y : EReal) : EReal := y * Ideal.div 1 (1 + Ideal.exp (0 - y))

/-- An exponential is not negative. -/
theorem exp_nonneg : ∀ x : EReal, 0 ≤ Ideal.exp x
  | ⊥ => le_of_eq Ideal.exp_bot.symm
  | ⊤ => by rw [Ideal.exp_top]; exact le_top
  | (r : ℝ) => by rw [Ideal.exp_coe]; exact EReal.coe_nonneg.mpr (Real.exp_pos r).le

/-- So one more than an exponential is not zero. -/
theorem one_add_exp_ne_zero (x : EReal) : 1 + Ideal.exp x ≠ 0 :=
  ne_of_gt (lt_of_lt_of_le zero_lt_one (le_add_of_nonneg_right (exp_nonneg x)))

/-- The kernel's last function is the quotient of its argument by one more than the exponential of its opposite. -/
theorem gate_eq (y : EReal) : gate y = Ideal.div y (1 + Ideal.exp (-y)) := by
  have h := one_add_exp_ne_zero (-y)
  unfold gate Ideal.div
  rw [zero_sub, if_neg h, if_neg h, one_mul]

/-- Clipping a number between bounds that it does not pass leaves it as it is. -/
theorem clip_eq {y b : EReal} (h : max y (-y) ≤ b) : min b (max (-b) y) = y := by
  have h1 : y ≤ b := (le_max_left _ _).trans h
  have h2 : -b ≤ y := EReal.neg_le.mp ((le_max_right _ _).trans h)
  rw [max_eq_right h2, min_eq_right h1]

/-- A sum over the four devices, from any of them on, in the order in which that device adds them. -/
theorem sum_four (g : Fin 4 → EReal) (c : Fin 4) (r l o : Fin 4) (hr : r.val = (c.val + 1) % 4) (hl : l.val = (c.val + 3) % 4)
    (ho : o.val = (c.val + 2) % 4) : g c + g r + g l + g o = ∑ s, g s := by
  rw [Fin.sum_univ_four]
  fin_cases c
  · obtain rfl : r = 1 := Fin.ext hr
    obtain rfl : l = 3 := Fin.ext hl
    obtain rfl : o = 2 := Fin.ext ho
    show g 0 + g 1 + g 3 + g 2 = _; abel
  · obtain rfl : r = 2 := Fin.ext hr
    obtain rfl : l = 0 := Fin.ext hl
    obtain rfl : o = 3 := Fin.ext ho
    show g 1 + g 2 + g 0 + g 3 = _; abel
  · obtain rfl : r = 3 := Fin.ext hr
    obtain rfl : l = 1 := Fin.ext hl
    obtain rfl : o = 0 := Fin.ext ho
    show g 2 + g 3 + g 1 + g 0 = _; abel
  · obtain rfl : r = 0 := Fin.ext hr
    obtain rfl : l = 2 := Fin.ext hl
    obtain rfl : o = 1 := Fin.ext ho
    show g 3 + g 0 + g 2 + g 1 = _; abel

/-- A sum over 4096 terms, device by device. -/
theorem sum_devices (f : Fin 4096 → EReal) :
    ∑ t, f t = ∑ s : Fin 4, ∑ t : Fin 1024, f ⟨1024 * s.val + t.val, by have := s.isLt; have := t.isLt; omega⟩ := by
  rw [Fin.sum_univ_tiles 4 1024 (by decide)]
  refine Finset.sum_congr rfl fun s _ => Finset.sum_congr rfl fun t _ => congrArg f (Fin.ext ?_)
  simp [Nat.mul_comm, Nat.add_comm]

end Cert.Gate

end
-- ==== Proof.KernelIdeal.Payloads.lean ====
/-
# What one block computes

Over the extended reals a cast is the identity and a product is a sum of products. So each step of the body adds, at
row `r` and column `k`, a sum over 1024 terms; and the last one puts the whole through `y ↦ y * (1 / (1 + exp (0 - y)))`.
-/
module

public import proofs.«01_k».proof.Proof.KernelIdeal.Result
public import proofs.«01_k».proof.Proof.Gate
public import Idealize.ShloMosaic.Lib.Pointwise

@[expose] public section

noncomputable section

namespace Cert.KernelIdeal.Mesh

open Cert.KernelIdeal Cert.KernelIdeal.Gen Cert.Blocks Cert.Gate
open Idealize.ShloMosaic

/-- The first product at an element. -/
theorem pay5_at (a : FVec Ideal S1024x1024 .f32) (b : FVec Ideal S1x1024x2048 .f32) (r : Fin 1024) (k : Fin 2048) :
    k0_pay5 (F := Ideal) a b (ix2 r k) = ∑ t : Fin 1024, a (ix2 r t) * b (ix3 0 t k) := by
  pointwise [k0_pay5]

/-- The second at an element, added to what was there. -/
theorem pay6_at (f : FVec Ideal S1024x2048 .f32) (a : FVec Ideal S1x1024x1024 .bf16) (b : FVec Ideal S1x1024x2048 .f32) (r : Fin 1024) (k : Fin 2048) :
    k0_pay6 (F := Ideal) f a b (ix2 r k) = f (ix2 r k) + ∑ t : Fin 1024, a (ix3 0 r t) * b (ix3 0 t k) := by
  pointwise [k0_pay6]

/-- The third likewise. -/
theorem pay7_at (f : FVec Ideal S1024x2048 .f32) (a : FVec Ideal S1x1024x1024 .bf16) (b : FVec Ideal S1x1024x2048 .f32) (r : Fin 1024) (k : Fin 2048) :
    k0_pay7 (F := Ideal) f a b (ix2 r k) = f (ix2 r k) + ∑ t : Fin 1024, a (ix3 0 r t) * b (ix3 0 t k) := by
  pointwise [k0_pay7]

/-- A slice of the last product, added, and put through that function. -/
theorem pay8_at (f : FVec Ideal S128x2048 .f32) (a : FVec Ideal S1x128x1024 .bf16) (b : FVec Ideal S1x1024x2048 .f32) (r : Fin 128) (k : Fin 2048) :
    k0_pay8 (F := Ideal) f a b (ix2 r k) = gate (f (ix2 r k) + ∑ t : Fin 1024, a (ix3 0 r t) * b (ix3 0 t k)) := by
  pointwise [k0_pay8, gate]

end Cert.KernelIdeal.Mesh

end
-- ==== Proof.KernelIdeal.Whole.lean ====
/-
# A device's result in terms of the whole arrays

Device `s` has the columns of `X` from `1024 * s` on, and every device the whole of `W`. Each of the four products that
a device adds is the part of the whole product's sum that runs over one device's columns; the four together are the
whole sum. So row `r` of device `c`'s result is row `1024 * c + r` of the product, put through the last function.
-/
module

public import proofs.«01_k».proof.Proof.KernelIdeal.Payloads
public import Idealize.ShloMosaic.Lib.Layout

@[expose] public section

noncomputable section

namespace Cert.KernelIdeal.Mesh

open Cert.KernelIdeal Cert.KernelIdeal.Gen Cert.Blocks Cert.Gate
open Idealize.ShloMosaic
open Idealize.ShloMosaic.TcCoe

variable (m : (ℓ : Loc nD τ sig) → Buf (Elt Ideal) ℓ) (ρ : Dev nD → PrngReg)
variable (X : (⟨2, ![4096, 4096]⟩ : Shape).Idx → EReal) (W : (⟨2, ![4096, 2048]⟩ : Shape).Idx → EReal)

/-- The whole product at an element. -/
def entry (a : Fin 4096) (k : Fin 2048) : EReal := ∑ t : Fin 4096, X (ix2 a t) * W (ix2 t k)

/-- Column `t` of those of device `s`. -/
def colOf (s : Dev nD) (t : Fin 1024) : Fin 4096 := ⟨1024 * s.val + t.val, block_lt t.isLt⟩

/-- The part of an element's sum that runs over the columns of device `s`. -/
def part (s : Dev nD) (a : Fin 4096) (k : Fin 2048) : EReal := ∑ t : Fin 1024, X (ix2 a (colOf s t)) * W (ix2 (colOf s t) k)

/-- What the devices hold at first: their blocks of `X`, and `W`. -/
structure Holds : Prop where
  x : ∀ c : Dev nD, m ((c.tc : Thread nD τ).loc main_arg0) = Layout.block ⟨2, ![4096, 1024]⟩ ⟨2, ![4096, 4096]⟩ 1 4 c X
  w : ∀ c : Dev nD, m ((c.tc : Thread nD τ).loc main_arg1) = W

variable {m X W}

/-- An element of a device's block of `x`, -/
theorem xin_at (h : Holds m X W) (s : Dev nD) (a : Fin 4096) (t : Fin 1024) {ha ht} :
    xin m ρ s (at2 a.val t.val ha ht) = X (ix2 a (colOf s t)) := by
  rw [xin_eq, h.x s]
  exact congrArg X (ext2 rfl (congrArg (· + t.val) (Nat.mul_comm _ _)))

/-- and of its copy of `w`. -/
theorem win_at (h : Holds m X W) (c s : Dev nD) (t : Fin 1024) (k : Fin 2048) :
    wblk m ρ c s (ix3 0 t k) = W (ix2 (colOf s t) k) := by
  show m ((c.tc : Thread nD τ).loc main_arg1) _ = _
  rw [h.w c]
  exact congrArg W (ext2 rfl rfl)

/-- The rows that device `s` sent `c`, at an element. -/
theorem lblk_at (h : Holds m X W) (c s : Dev nD) (r t : Fin 1024) :
    lblk m ρ c s (ix3 0 r t) = X (ix2 (colOf c r) (colOf s t)) := xin_at ρ h s (colOf c r) t

/-- Row `r` of slice `q`, among the rows of a block. -/
def rowOf (q : Fin 8) (r : Fin 128) : Fin 1024 := ⟨128 * q.val + r.val, by have := q.isLt; have := r.isLt; omega⟩

/-- A slice of them. -/
theorem lslc_at (h : Holds m X W) (c s : Dev nD) (q : Fin 8) (r : Fin 128) (t : Fin 1024) :
    lslc m ρ c s q (ix3 0 r t) = X (ix2 (colOf c (rowOf q r)) (colOf s t)) := xin_at ρ h s (colOf c (rowOf q r)) t

/-- The first product is the part of the device's own columns; -/
theorem acc0_at (h : Holds m X W) (c : Dev nD) (r : Fin 1024) (k : Fin 2048) : acc0 m ρ c (ix2 r k) = part X W c (colOf c r) k := by
  unfold acc0
  rw [pay5_at]
  exact Finset.sum_congr rfl fun t _ => congrArg₂ (· * ·) (xin_at ρ h c (colOf c r) t) (win_at ρ h c c t k)

/-- the second adds the right neighbour's, -/
theorem acc1_at (h : Holds m X W) (c : Dev nD) (r : Fin 1024) (k : Fin 2048) :
    acc1 m ρ c (ix2 r k) = part X W c (colOf c r) k + part X W (right c) (colOf c r) k := by
  unfold acc1
  rw [pay6_at, acc0_at ρ h]
  exact congrArg (_ + ·) (Finset.sum_congr rfl fun t _ => congrArg₂ (· * ·) (lblk_at ρ h c (right c) r t) (win_at ρ h c (right c) t k))

/-- the third the left neighbour's, -/
theorem acc2_at (h : Holds m X W) (c : Dev nD) (r : Fin 1024) (k : Fin 2048) :
    acc2 m ρ c (ix2 r k) = part X W c (colOf c r) k + part X W (right c) (colOf c r) k + part X W (left c) (colOf c r) k := by
  unfold acc2
  rw [pay7_at, acc1_at ρ h]
  exact congrArg (_ + ·) (Finset.sum_congr rfl fun t _ => congrArg₂ (· * ·) (lblk_at ρ h c (left c) r t) (win_at ρ h c (left c) t k))

/-- and the four parts are the whole sum. -/
theorem parts_entry (c : Dev nD) (a : Fin 4096) (k : Fin 2048) :
    part X W c a k + part X W (right c) a k + part X W (left c) a k + part X W (diag c) a k = entry X W a k :=
  (sum_four (fun s => part X W s a k) c (right c) (left c) (diag c) rfl rfl rfl).trans
    (sum_devices fun t => X (ix2 a t) * W (ix2 t k)).symm

/-- A slice of the result at an element. -/
theorem oq_at (h : Holds m X W) (c : Dev nD) (q : Fin 8) (r : Fin 128) (k : Fin 2048) :
    oq m ρ c q (ix2 r k) = gate (entry X W (colOf c (rowOf q r)) k) := by
  unfold oq
  rw [pay8_at, ← parts_entry c]
  refine congrArg gate (congrArg₂ (· + ·) ?_ (Finset.sum_congr rfl fun t _ =>
    congrArg₂ (· * ·) (lslc_at ρ h c (diag c) q r t) (win_at ρ h c (diag c) t k)))
  rw [← acc2_at ρ h]
  exact congrArg (acc2 m ρ c) (ext2 rfl rfl)

/-- **The result of device `c` at an element.** -/
theorem outv_at (h : Holds m X W) (c : Dev nD) (i : S1024x2048.Idx) :
    outv m ρ c i = gate (entry X W (colOf c (i 0)) (i 1)) := by
  have hi := lt0 i
  have e : (at2 ((i 0).val % 128) (i 1).val (Nat.mod_lt _ (by decide)) (lt1 i) : S128x2048.Idx)
      = ix2 (n0 := 128) (n1 := 2048) ⟨(i 0).val % 128, Nat.mod_lt _ (by decide)⟩ (i 1) := ext2 rfl rfl
  refine (congrArg (oq m ρ c ⟨(i 0).val / 128, by omega⟩) e).trans ((oq_at ρ h c _ _ (i 1)).trans ?_)
  refine congrArg (fun a => gate (entry X W (colOf c a) (i 1))) (Fin.ext ?_)
  show 128 * ((i 0).val / 128) + (i 0).val % 128 = (i 0).val
  omega

end Cert.KernelIdeal.Mesh

end
-- ==== Proof.Reference.lean ====
/-
# What the references compute

Each reference divides the product of the whole arrays by one more than the exponential of its opposite; reference.py's
clips the exponent between -60 and 60 first. At an element where the product is not beyond these bounds the clip changes
nothing, and the mask of the claim says just that.
-/
module

public import proofs.«01_k».proof.Defs
public import proofs.«01_k».proof.Proof.Gate
public import proofs.«01_k».proof.Proof.Gen.ReferenceIdeal.Run
public import proofs.«01_k».proof.Proof.Gen.SiluIdeal.Run
public import proofs.«01_k».proof.Proof.Gen.On_within_clip
public import Idealize.ShloMosaic.Lib.Pointwise

@[expose] public section

noncomputable section

open Idealize.ShloMosaic Idealize.ShloMosaic.TcCoe Idealize.SL.Sem
open Cert.Gate

namespace Cert.SiluIdeal.Value

open Cert.SiluIdeal Cert.SiluIdeal.Gen

/-- What the reference without the clip returns, of whole arrays. -/
def result (X : FVec Ideal S4096x4096 .f32) (W : FVec Ideal S4096x2048 .f32) : FVec Ideal S4096x2048 .f32 :=
  Host.divf (Host.dotGeneral dot_S4096x4096_S4096x2048_S4096x2048_1_0_0_1_n_n none X W)
    (addf (broadcastInDim S4096x2048 ![] bcast_S_S4096x2048 (constant S_ .f32 0x3F800000#32))
      (Host.exp (Host.negf (Host.dotGeneral dot_S4096x4096_S4096x2048_S4096x2048_1_0_0_1_n_n none X W))))

/-- At each element it is the kernel's last function of the product. -/
theorem result_at (X : FVec Ideal S4096x4096 .f32) (W : FVec Ideal S4096x2048 .f32) (a : Fin 4096) (k : Fin 2048) :
    result X W (ix2 a k) = gate (∑ t : Fin 4096, X (ix2 a t) * W (ix2 t k)) := by
  rw [gate_eq]
  pointwise [result]

end Cert.SiluIdeal.Value

namespace Cert.ReferenceIdeal.Value

open Cert.ReferenceIdeal Cert.ReferenceIdeal.Gen

/-- What the reference returns, of whole arrays. -/
def result (X : FVec Ideal S4096x4096 .f32) (W : FVec Ideal S4096x2048 .f32) : FVec Ideal S4096x2048 .f32 :=
  Host.divf (Host.dotGeneral dot_S4096x4096_S4096x2048_S4096x2048_1_0_0_1_n_n none X W)
    (addf (broadcastInDim S4096x2048 ![] bcast_S_S4096x2048 (constant S_ .f32 0x3F800000#32))
      (Host.exp (Host.negf (minimumf (broadcastInDim S4096x2048 ![] bcast_S_S4096x2048 (id (constant S_ .f32 0x42700000#32)))
        (maximumf (broadcastInDim S4096x2048 ![] bcast_S_S4096x2048 (id (constant S_ .f32 0xC2700000#32)))
          (Host.dotGeneral dot_S4096x4096_S4096x2048_S4096x2048_1_0_0_1_n_n none X W))))))

/-- The bounds of the clip are opposite. -/
theorem bounds : Ideal.ofBits .f32 0xC2700000#32 = -Ideal.ofBits .f32 0x42700000#32 := by
  simp [Ideal.ofBits, Ideal.ieee]

/-- Where the mask is set, the product is within the bounds; -/
theorem within (X : FVec Ideal S4096x4096 .f32) (W : FVec Ideal S4096x2048 .f32) (a : Fin 4096) (k : Fin 2048)
    (h : Cert.On_within_clip.fn (F := Ideal) X W (ix2 a k) = 1#1) :
    max (∑ t : Fin 4096, X (ix2 a t) * W (ix2 t k)) (-∑ t : Fin 4096, X (ix2 a t) * W (ix2 t k)) ≤ Ideal.ofBits .f32 0x42700000#32 := by
  revert h
  pointwise [Cert.On_within_clip.fn]
  intro h
  by_contra hn
  have h' := (congrArg BitVec.ofBool (decide_eq_false hn)).symm.trans h
  exact absurd h' (by decide)

/-- and there the reference is the kernel's last function of the product too. -/
theorem result_at (X : FVec Ideal S4096x4096 .f32) (W : FVec Ideal S4096x2048 .f32) (a : Fin 4096) (k : Fin 2048)
    (h : Cert.On_within_clip.fn (F := Ideal) X W (ix2 a k) = 1#1) :
    result X W (ix2 a k) = gate (∑ t : Fin 4096, X (ix2 a t) * W (ix2 t k)) := by
  have hc := clip_eq (within X W a k h)
  rw [gate_eq]
  pointwise [result]
  rw [show id (constant S_ FTy.f32 3262119936#32) ix0 = -Ideal.ofBits .f32 0x42700000#32 from bounds,
    show id (constant S_ FTy.f32 1114636288#32) ix0 = Ideal.ofBits .f32 0x42700000#32 from rfl, hc]

end Cert.ReferenceIdeal.Value

end
-- ==== Proof.lean ====
/-
# The claims, proved

Both forms of the kernel run by `Mesh.run`, stated once for each: every device ends with its arguments as they were,
its result as the body computes it, and every semaphore at zero. The references are lists of host operations, which
declare no semaphore. The two equations compare a device's result, `Mesh.outv_at`, with its block of the reference's,
`Value.result_at`, element by element.
-/
module

public import proofs.«01_k».proof.Defs
public import proofs.«01_k».proof.Proof.Kernel.Result
public import proofs.«01_k».proof.Proof.KernelIdeal.Whole
public import proofs.«01_k».proof.Proof.Reference
public import proofs.«01_k».proof.Proof.Gen.ReferenceIdeal.Run
public import proofs.«01_k».proof.Proof.Gen.SiluIdeal.Run
public import proofs.«01_k».proof.Proof.Gen.On_within_clip
public import Idealize.ShloMosaic.Lib.Quiescent

@[expose] public section

noncomputable section

namespace Cert.Proof

open Idealize.ShloMosaic Idealize.SL.Sem
open Cert.KernelIdeal.Mesh (entry colOf outv outv_at Holds)
open Cert.Gate Cert.Blocks

/-- The kernel's frame. -/
theorem kernel_frame : Cert.quiescent_Kernel (hKernel := Cert.Kernel.Gen.facts) := fun m ρ _ =>
  (θ_run _ _ _).mono (fun _ h => ⟨fun c => (h.1 c).2, h.2⟩) (Cert.Kernel.Mesh.run m ρ)

/-- The idealized kernel's frame. -/
theorem kernelIdeal_frame : Cert.quiescent_KernelIdeal (hKernelIdeal := Cert.KernelIdeal.Gen.facts) := fun m ρ _ =>
  (θ_run _ _ _).mono (fun _ h => ⟨fun c => (h.1 c).2, h.2⟩) (Cert.KernelIdeal.Mesh.run m ρ)

/-- The reference's frame. -/
theorem referenceIdeal_frame : Cert.quiescent_ReferenceIdeal (hReferenceIdeal := Cert.ReferenceIdeal.Gen.facts) := fun m ρ _ =>
  (θ_run _ _ _).mono (fun r h => ⟨fun c => (h c).2, sem_eq_zero_of_no_sems rfl r.2⟩) (Cert.ReferenceIdeal.Value.run m ρ)

/-- The frame of the reference without the clip. -/
theorem siluIdeal_frame : Cert.quiescent_SiluIdeal (hSiluIdeal := Cert.SiluIdeal.Gen.facts) := fun m ρ _ =>
  (θ_run _ _ _).mono (fun r h => ⟨fun c => (h c).2, sem_eq_zero_of_no_sems rfl r.2⟩) (Cert.SiluIdeal.Value.run m ρ)

/-- Where an element of device `c`'s block lies in the whole result. -/
theorem place (h : Layout.Tiles ⟨2, ![1024, 2048]⟩ ⟨2, ![4096, 2048]⟩ 0 4) (c : Fin 4) (i : (⟨2, ![1024, 2048]⟩ : Shape).Idx) :
    h.idx c i = ix2 (n0 := 4096) (n1 := 2048) (colOf c (i 0)) (i 1) :=
  ext2 (congrArg (· + (i 0).val) (Nat.mul_comm _ _)) rfl

/-- The kernel and reference.py's reference agree at every element whose product is within the clip. -/
theorem agrees_within : Cert.algebraic_KernelIdeal_ReferenceIdeal_on_within_clip (hKernelIdeal := Cert.KernelIdeal.Gen.facts)
    (hReferenceIdeal := Cert.ReferenceIdeal.Gen.facts) (hOn_within_clip := Cert.On_within_clip.Gen.facts) := fun m ρ m' ρ' _ hm => by
  have H : Holds m _ _ := ⟨fun c => (hm c).1, fun c => (hm c).2⟩
  refine ⟨Cert.ReferenceIdeal.Value.result _ _, ?_, (θ_run _ _ _).mono (fun r h => ⟨fun i _ => congrFun (h 0).1 i, (h 0).2⟩)
    (Cert.ReferenceIdeal.Value.run m' ρ')⟩
  refine (θ_run _ _ _).mono (fun r h c => ⟨fun i hi => ?_, (h.1 c).2⟩) (Cert.KernelIdeal.Mesh.run m ρ)
  rw [Layout.block_apply, place] at hi ⊢
  exact (congrFun (h.1 c).1 i).trans ((outv_at ρ H c i).trans (Cert.ReferenceIdeal.Value.result_at _ _ _ _ hi).symm)

/-- The kernel and the reference without the clip agree at every element. -/
theorem agrees : Cert.algebraic_KernelIdeal_SiluIdeal (hKernelIdeal := Cert.KernelIdeal.Gen.facts)
    (hSiluIdeal := Cert.SiluIdeal.Gen.facts) := fun m ρ m' ρ' _ hm => by
  have H : Holds m _ _ := ⟨fun c => (hm c).1, fun c => (hm c).2⟩
  refine ⟨Cert.SiluIdeal.Value.result _ _, ?_, (θ_run _ _ _).mono (fun r h => h 0) (Cert.SiluIdeal.Value.run m' ρ')⟩
  refine (θ_run _ _ _).mono (fun r h c => ⟨(h.1 c).1.trans (funext fun i => ?_), (h.1 c).2⟩) (Cert.KernelIdeal.Mesh.run m ρ)
  rw [Layout.block_apply, place]
  exact (outv_at ρ H c i).trans (Cert.SiluIdeal.Value.result_at _ _ _ _).symm

theorem claim : Cert.Claim := ⟨Cert.Kernel.Gen.facts, Cert.KernelIdeal.Gen.facts, Cert.ReferenceIdeal.Gen.facts, Cert.SiluIdeal.Gen.facts,
  Cert.On_within_clip.Gen.facts, kernel_frame, kernelIdeal_frame, referenceIdeal_frame, siluIdeal_frame, trivial, agrees_within, agrees⟩

end Cert.Proof

end
